-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S2x256x8 : Shape := ⟨3, ![2, 256, 8]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S256x16 : Shape := ⟨2, ![256, 16]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S2x256x8, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v111 : BitVec 32 := Scalar.muli v2 c4_i32_42
  let v112 : BitVec 32 := Scalar.addi c0_i32_43 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v113 : BitVec 32 := Scalar.muli v5 c2_i32_44
  let v114 : BitVec 32 := Scalar.addi v112 v113
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_45 : BitVec 32 := 1#32
  let v115 : BitVec 32 := Scalar.muli v9 c1_i32_45
  let v116 : BitVec 32 := Scalar.addi v114 v115
  v116.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .i32⟩
  | .hbm, ⟨4, _⟩ => ⟨S256x2048, .f32⟩
  | .hbm, ⟨5, _⟩ => ⟨S256x2048, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Protocol.lean ====
/-
# The exchange of candidates: who hands what to whom

Eight devices sit on a 2 × 2 × 2 mesh, and the two that differ in the last coordinate form a pair. In the launch each
device tells its partner it has started (one unit on the partner's barrier semaphore), waits to be told the same, works
out the eight greatest entries of its own block's rows in slot 0 of its candidate buffer, copies slot 0 into slot 1 of
the partner's buffer, waits for both copies of the pair, and works out the eight greatest of the two slots together.

This file states the protocol: three semaphores per device (`roleSem`), one round with one duty on each, and what a duty
hands over when it is paid (`pay`): the start signal hands over slot 1 of the signaller's buffer, the departure of a copy
gives the sender its slot 0 back, the arrival gives the receiver its slot 1 filled. Everything is at any float values.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Writes

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging pipeline's rounds and the exchange's -/

abbrev XU : Type := URounds (GSem nD τ sig) Unit
abbrev GU : Type := UR sig nD τ × XU

local notation "𝕄" => MT nD τ sig Unit (Elt F) ℕ GU ℕ

abbrev pipeE : Emb (UR sig nD τ) (MT nD τ sig Unit (Elt F) ℕ GU ℕ) := embL
abbrev xchE : Emb XU (MT nD τ sig Unit (Elt F) ℕ GU ℕ) := embR

variable (m : (ℓ : Loc nD τ sig) → Buf (Elt F) ℓ)

/-! ## Partners -/

set_option backward.proofsInPublic true in
/-- The device that differs from `c` in the mesh's last coordinate only. -/
def peer (c : Dev nD) : Dev nD :=
  ⟨if c.val % 2 = 0 then c.val + 1 else c.val - 1, by revert c; decide⟩

theorem peer_peer (c : Dev nD) : peer (peer c) = c := by revert c; decide

/-- Swapping every device for its partner. -/
def peerEquiv : Dev nD ≃ Dev nD := ⟨peer, peer, peer_peer, peer_peer⟩

/-- The start signal is addressed to the partner, -/
theorem signal_to (c : Dev nD) : (⟨k0_dev1 c, k0_dev1_lt c⟩ : Dev nD) = peer c := by
  refine Fin.ext ((k0_dev1_eq c).trans ?_); revert c; decide
/-- and so is the copy. -/
theorem copy_to (c : Dev nD) : (⟨k0_dev2 c, k0_dev2_lt c⟩ : Dev nD) = peer c := by
  refine Fin.ext ((k0_dev2_eq c).trans ?_); revert c; decide

/-! ## The candidate buffer's two slots -/

abbrev xBuf : Memref sig .tc .vmem S256x1024 .bf16 := Memref.whole cc0_stg0_0
abbrev oBuf : Memref sig .tc .vmem S256x8 .f32 := Memref.whole cc0_stg1_0
abbrev cand : Memref sig .tc .vmem S2x256x8 .f32 := Memref.whole cc0_scratch0

abbrev box0 : Rect S2x256x8 := Rect.unit (s := S2x256x8) ![0, 0, 0] S1x256x8.size inb_S2x256x8_S1x256x8_0_0_0
abbrev box1 : Rect S2x256x8 := Rect.unit (s := S2x256x8) ![1, 0, 0] S1x256x8.size inb_S2x256x8_S1x256x8_1_0_0

/-- The slots as loads and stores address them, -/
abbrev slot0 : View sig .tc .vmem S1x256x8 .f32 := cand.access box0
abbrev slot1 : View sig .tc .vmem S1x256x8 .f32 := cand.access box1
/-- and as the copy does, the leading axis of extent one dropped. -/
abbrev flat0 : Memref sig .tc .vmem S256x8 .f32 := (cand.slice box0 (fun _ => rfl)).squeeze S256x8 squeezes_S1x256x8_S256x8
abbrev flat1 : Memref sig .tc .vmem S256x8 .f32 := (cand.slice box1 (fun _ => rfl)).squeeze S256x8 squeezes_S1x256x8_S256x8

theorem flat0_set : flat0.view.set = slot0.set := View.set_reshape _ _
theorem flat1_set : flat1.view.set = slot1.set := View.set_reshape _ _

/-- The two slots have no element in common, -/
theorem slots_disjoint : Disjoint slot0.set slot1.set := by
  rw [View.set_slice_whole, View.set_slice_whole]
  exact Rect.disjoint_of_separated box0 box1 0 (Or.inl (Or.inr (by decide)))

/-- and together they are the buffer: the first coordinate of an index is 0 or 1. -/
theorem slots_cover : slot0.set ∪ slot1.set = Finset.univ := by
  rw [View.set_slice_whole, View.set_slice_whole]
  refine Finset.eq_univ_of_forall fun i => Finset.mem_union.mpr ?_
  have h0 : (i 0).val < 2 := (i 0).isLt
  have h1 : (i 1).val < 256 := (i 1).isLt
  have h2 : (i 2).val < 8 := (i 2).isLt
  by_cases h : (i 0).val = 0
  · refine Or.inl ((LoadRect.mem_set _).mpr fun a => ?_)
    fin_cases a
    · exact ⟨0, Nat.one_pos, h⟩
    · exact ⟨(i 1).val, h1, by show (i 1).val = 0 + 1 * (i 1).val; omega⟩
    · exact ⟨(i 2).val, h2, by show (i 2).val = 0 + 1 * (i 2).val; omega⟩
  · refine Or.inr ((LoadRect.mem_set _).mpr fun a => ?_)
    fin_cases a
    · exact ⟨0, Nat.one_pos, by show (i 0).val = 1 + 1 * 0; omega⟩
    · exact ⟨(i 1).val, h1, by show (i 1).val = 0 + 1 * (i 1).val; omega⟩
    · exact ⟨(i 2).val, h2, by show (i 2).val = 0 + 1 * (i 2).val; omega⟩

/-- Device `c` holds the elements of `v`, a slot of its candidate buffer, which reads `w`. -/
def holds (v : View sig .tc .vmem S1x256x8 .f32) (c : Dev nD) (w : S1x256x8.Idx → Elt F .f32) : sProp 𝕄 :=
  iprop(∃ f : Buf (Elt F) (v.loc (c : Thread nD τ)), ⌜v.read (Elt F) f = w⌝ ∗ (v.loc (c : Thread nD τ) ↦[v.set]{fullShare} f))

/-- Device `c` holds the elements of `v` at some contents. -/
def free (v : View sig .tc .vmem S1x256x8 .f32) (c : Dev nD) : sProp 𝕄 :=
  iprop(∃ f : Buf (Elt F) (v.loc (c : Thread nD τ)), (v.loc (c : Thread nD τ) ↦[v.set]{fullShare} f))

omit [FloatOps F] in
instance holds_storable (v : View sig .tc .vmem S1x256x8 .f32) (c : Dev nD) (w) :
    BI.Storable (upEmb : UEmb _ 𝕄) (holds (F := F) v c w) := by unfold holds; infer_instance
omit [FloatOps F] in
instance free_storable (v : View sig .tc .vmem S1x256x8 .f32) (c : Dev nD) :
    BI.Storable (upEmb : UEmb _ 𝕄) (free (F := F) v c) := by unfold free; infer_instance

omit [FloatOps F] in
/-- The whole candidate buffer is its two slots. -/
theorem split_cand (c : Dev nD) (f : Buf (Elt F) ((c : Thread nD τ).loc cc0_scratch0)) :
    (((c : Thread nD τ).loc cc0_scratch0) ↦{fullShare} f : sProp 𝕄) ⊢ iprop(free slot0 c ∗ free slot1 c) := by
  rw [show (((c : Thread nD τ).loc cc0_scratch0) ↦{fullShare} f : sProp 𝕄)
      = (((c : Thread nD τ).loc cc0_scratch0) ↦[slot0.set ∪ slot1.set]{fullShare} f) from by rw [slots_cover]]
  refine (pointsTo_union slots_disjoint).1.trans ?_
  unfold free
  iintro ⟨H0, H1⟩
  isplitl [H0]
  · iexists f; iexact H0
  · iexists f; iexact H1

omit [FloatOps F] in
theorem join_cand (c : Dev nD) (w0 w1 : S1x256x8.Idx → Elt F .f32) :
    iprop(holds slot0 c w0 ∗ holds slot1 c w1) ⊢ (∃ f, (((c : Thread nD τ).loc cc0_scratch0) ↦{fullShare} f) : sProp 𝕄) := by
  unfold holds
  iintro ⟨⟨%f, -, H0⟩, ⟨%g, -, H1⟩⟩
  ihave H := (pointsTo_join (ℓ := (c : Thread nD τ).loc cc0_scratch0) (q := fullShare) (f := f) (g := g) slots_disjoint) $$ [H0 H1]
  · isplitl [H0] <;> iassumption
  rw [slots_cover]
  iexists _; iexact H

/-! ## The three semaphores of a device -/

/-- The runtime's barrier semaphore, and the two semaphores a copy completes on. -/
abbrev barSem : Sem sig := (SemArray.scalar (sig.barrier 0 rfl) : Sems sig S_).sem
abbrev outSem : DmaSems sig S_ := cc0_scratch1
abbrev inSem : DmaSems sig S_ := cc0_scratch2

/-- Barrier, departure, arrival. -/
abbrev roleSem : Fin 3 → SemLoc sig := fun | 0 => .reg barSem | 1 => .dma outSem.sem | 2 => .dma inSem.sem

/-- Which of the three a semaphore is. -/
def roleOf (s : SemLoc sig) : Option (Fin 3) :=
  if s = roleSem 0 then some 0 else if s = roleSem 1 then some 1 else if s = roleSem 2 then some 2 else none

theorem roleOf_roleSem (k : Fin 3) : roleOf (roleSem k) = some k := by revert k; decide
theorem roleSem_injective : Function.Injective roleSem := fun a b h =>
  Option.some.inj ((roleOf_roleSem a).symm.trans ((congrArg roleOf h).trans (roleOf_roleSem b)))

abbrev cell (ck : Dev nD × Fin 3) : GSem nD τ sig := ((ck.1 : Thread nD τ), roleSem ck.2)

theorem cell_injective : Function.Injective cell := fun a b h =>
  Prod.ext (congrArg (fun g : GSem nD τ sig => g.1.1) h) (roleSem_injective (congrArg Prod.snd h))

/-- What one copy credits. -/
abbrev credit : ℕ := flat1.view.dmaCredit
theorem credit_pos : 0 < credit := View.dmaCredit_pos _ (by decide)

/-- The units the duty on each of a device's semaphores is worth. -/
def units : Fin 3 → ℕ := fun | 0 => 1 | 1 => credit | 2 => credit
theorem units_pos (k : Fin 3) : 0 < units k := by
  fin_cases k
  · exact Nat.one_pos
  · exact credit_pos
  · exact credit_pos

/-! ## The contents -/

/-- Device `c`'s block of the input, as the launch stages it. -/
def block (c : Dev nD) : S256x1024.Idx → Elt F .bf16 :=
  (win0_0.blk (0 : Fin 1)).view.read (Elt F) (m ((c : Thread nD τ).loc main_arg0))

/-- The eight columns the first selection stores for a block: the names are the printed kernel's values. -/
def best (x : S256x1024.Idx → Elt F .bf16) : S1x256x8.Idx → Elt F .f32 :=
  let lanes : IVec S256x1024 32 := iota .tc S256x1024 32 [1] iota_S256x1024_d1_w32
  k0_pay14 lanes (k0_pay3 x) (k0_pay5 x) (k0_pay8 lanes (k0_pay4 x) (k0_pay6 x)) (k0_pay10 lanes (k0_pay4 x) (k0_pay6 x))
    (k0_pay12 lanes (k0_pay4 x) (k0_pay6 x)) (k0_pay13 lanes (k0_pay4 x) (k0_pay6 x))

/-- The eight columns the second selection stores for two slots. -/
def merge (a b : S1x256x8.Idx → Elt F .f32) : S256x8.Idx → Elt F .f32 :=
  let lanes : IVec S256x16 32 := iota .tc S256x16 32 [1] iota_S256x16_d1_w32
  let v := k0_pay15 a b
  let p := k0_pay17 a b
  k0_pay1 lanes (k0_pay16 a b) (k0_pay19 v lanes p) (k0_pay21 v lanes p) (k0_pay23 v lanes p) (k0_pay24 v lanes p)
    (k0_pay25 v lanes p) (k0_pay26 v lanes p) k0_pay27

/-- Device `c`'s result: the second selection over its own candidates and its partner's. -/
def result (c : Dev nD) : S256x8.Idx → Elt F .f32 := merge (best (block m c)) (best (block m (peer c)))

/-! ## The schedule -/

/-- What the duty on each semaphore of device `c` hands over. -/
def pay : Fin 3 → Dev nD → sProp 𝕄
  | 0, c => iprop(free slot1 (peer c) ∗ reached xchE (cell (peer c, 2)) 0)
  | 1, c => holds slot0 c (best (block m c))
  | 2, c => holds slot1 c (best (block m (peer c)))

/-- One round, and on each of a device's three semaphores one duty. -/
def sched : Rounds.Schedule (GSem nD τ sig) Unit 𝕄 where
  duties g r := if r = 0 ∧ g.1.2 = .tc ∧ (roleOf g.2).isSome then {()} else ∅
  unitless _ := False
  amount g _ _ := (roleOf g.2).elim 1 units
  payload g _ _ := (roleOf g.2).elim iprop(emp) fun k => pay m k g.1.1
  amount_pos g _ _ _ := by
    cases roleOf g.2 with
    | none => exact Nat.one_pos
    | some k => exact units_pos k

instance sched_storable (g : GSem nD τ sig) (r : ℕ) (d : Unit) :
    BI.Storable (upEmb : UEmb _ 𝕄) ((sched (F := F) m).payload g r d) := by
  show BI.Storable upEmb ((roleOf g.2).elim iprop(emp) fun k => pay (F := F) m k g.1.1)
  cases roleOf g.2 with
  | none => show BI.Storable upEmb (iprop(emp) : sProp 𝕄); infer_instance
  | some k =>
    show BI.Storable upEmb (pay (F := F) m k g.1.1)
    fin_cases k <;> (simp only [pay]; infer_instance)

section Tables
variable (c : Dev nD) (k : Fin 3)

theorem duties_cell : (sched (F := F) m).duties (cell (c, k)) 0 = {()} :=
  if_pos ⟨rfl, rfl, by rw [roleOf_roleSem]; rfl⟩
theorem mem_duties : () ∈ (sched (F := F) m).duties (cell (c, k)) 0 := by
  rw [duties_cell]; exact Finset.mem_singleton_self _
theorem no_duties (g : GSem nD τ sig) (r : ℕ) (hr : 1 ≤ r) : (sched (F := F) m).duties g r = ∅ :=
  if_neg fun h => absurd h.1 (by omega)
theorem amount_cell : (sched (F := F) m).amount (cell (c, k)) 0 () = units k := by
  show (roleOf (roleSem k)).elim 1 units = _
  rw [roleOf_roleSem]; rfl
theorem payload_cell : (sched (F := F) m).payload (cell (c, k)) 0 () = pay m k c := by
  show (roleOf (roleSem k)).elim iprop(emp) (fun k => pay m k c) = _
  rw [roleOf_roleSem]; rfl
theorem expect_cell : (sched (F := F) m).expect (cell (c, k)) 0 = units k := by
  unfold Schedule.expect Schedule.amountOf; rw [duties_cell, Finset.sum_singleton, amount_cell]
/-- What is left to collect on a cell of which nothing was collected. -/
theorem rest_cell : bigSep ((sched (F := F) m).duties (cell (c, k)) 0 \ ∅) (fun d => (sched (F := F) m).payload (cell (c, k)) 0 d)
    = pay m k c := by
  rw [Finset.sdiff_empty, duties_cell, bigSep_singleton, payload_cell]

end Tables

/-! ## Debts and levels -/

/-- A device owes its partner the arrival of its copy, -/
def owedCopy (c : Dev nD) : CellTallies nD τ sig Unit := tallyAt (cell (peer c, 2)) () credit
/-- and before that the start signal. -/
def owed (c : Dev nD) : CellTallies nD τ sig Unit := owedCopy c + tallyAt (cell (peer c, 0)) () 1

def owners (g : GSem nD τ sig) : Finset Unit := if g.1.2 = .tc then {()} else ∅
/-- Barriers below arrivals, everything else at the bottom. -/
def rank (g : GSem nD τ sig) (_ : Unit) : ℕ := (roleOf g.2).elim 0 fun | 0 => 1 | 1 => 0 | 2 => 2

theorem owners_ne (g : GSem nD τ sig) (h : g.1.2 ≠ .tc) : owners g = ∅ := if_neg h
theorem mem_owners (c : Dev nD) (s : SemLoc sig) : () ∈ owners ((c : Thread nD τ), s) := by
  rw [show owners ((c : Thread nD τ), s) = {()} from if_pos rfl]; exact Finset.mem_singleton_self _
theorem rank_cell (c : Dev nD) (k : Fin 3) : rank (cell (c, k)) () = (match k with | 0 => 1 | 1 => 0 | 2 => 2) := by
  show (roleOf (roleSem k)).elim 0 _ = _
  rw [roleOf_roleSem]; rfl

theorem owedCopy_pos {c : Dev nD} {g : GSem nD τ sig} {u : Unit} (h : 0 < owedCopy c g u) : g = cell (peer c, 2) := by
  unfold owedCopy at h
  rw [tallyAt_apply] at h
  by_contra hn
  rw [if_neg (fun e => hn e.1)] at h
  exact Nat.lt_irrefl 0 h

theorem owed_pos {c : Dev nD} {g : GSem nD τ sig} {u : Unit} (h : 0 < owed c g u) :
    g = cell (peer c, 2) ∨ g = cell (peer c, 0) := by
  unfold owed at h
  rw [Pi.add_apply, Finsupp.add_apply, tallyAt_apply] at h
  by_contra hn
  rw [not_or] at hn
  rw [if_neg (fun e => hn.2 e.1), Nat.add_zero] at h
  exact hn.1 (owedCopy_pos h)

omit [FloatOps F] in
/-- A staging semaphore may be waited on whatever is still owed. -/
theorem mayWait_staging (c : Dev nD) (q : DmaSem sig) (hq : roleOf (.dma q) = none) (O : CellTallies nD τ sig Unit)
    (hO : O = owed c ∨ O = 0) : (levAts owners rank : sProp 𝕄) ⊢ MayWait (c : Thread nD τ) (.dma q) () O := by
  rcases hO with rfl | rfl
  · refine MayOwe.of_cut (L := owners) (lev := rank) 0 (fun p hp => ?_) (fun g u hg => ?_) (fun p hp => ?_) (fun g u hg => ?_)
    · rw [Finset.mem_singleton.mp hp]; exact mem_owners c _
    · rcases owed_pos hg with rfl | rfl <;> exact mem_owners _ _
    · rw [Finset.mem_singleton.mp hp]
      show (roleOf (.dma q)).elim 0 _ ≤ 0
      rw [hq]; exact Nat.le_refl 0
    · rcases owed_pos hg with rfl | rfl <;> (rw [rank_cell]; decide)
  · rw [MayWait_zero]; iintro -; iempintro

omit [FloatOps F] in
/-- The barrier may be waited on while the copy is owed. -/
theorem mayWait_barrier (c : Dev nD) : (levAts owners rank : sProp 𝕄) ⊢ MayWait (c : Thread nD τ) (.reg barSem) () (owedCopy c) := by
  refine MayOwe.of_cut (L := owners) (lev := rank) 1 (fun p hp => ?_) (fun g u hg => ?_) (fun p hp => ?_) (fun g u hg => ?_)
  · rw [Finset.mem_singleton.mp hp]; exact mem_owners c _
  · rw [owedCopy_pos hg]; exact mem_owners _ _
  · rw [Finset.mem_singleton.mp hp]; exact (rank_cell c 0).le
  · rw [owedCopy_pos hg, rank_cell]; decide

end Cert.KernelIdeal.Exchange

end
-- ==== Proof.Exchange.lean ====
/-
# The exchange, executed

`body_sound` runs one device's kernel through the protocol of `Protocol`: from its staged block and its candidate buffer
to the result staged, both slots back, and the three semaphores closed at zero.
-/
module

public import proofs.«01_k».proof.Proof.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ GU ℕ

variable (m : (ℓ : Loc nD τ sig) → Buf (Elt F) ℓ)

/-! ## What a device starts from, and what it ends with -/

/-- Everyone's invariants, under the names `K`, and everyone's cells known to be at round 0. -/
def shared (K : Dev nD × Fin 3 → ℕ) : sProp 𝕄 :=
  iprop((bigSep Finset.univ fun ck : Dev nD × Fin 3 => cellInv xchE (sched m) (K ck) (cell ck))
    ∗ bigSep Finset.univ fun ck : Dev nD × Fin 3 => reached xchE (cell ck) 0)

instance shared_persistent (K : Dev nD × Fin 3 → ℕ) : BI.Persistent (shared m K) := by unfold shared; infer_instance

theorem inv_of_shared (K : Dev nD × Fin 3 → ℕ) (ck : Dev nD × Fin 3) :
    shared m K ⊢ cellInv xchE (sched m) (K ck) (cell ck) := by
  unfold shared
  exact sep_elim_left.trans (bigSep_elim (Finset.mem_univ ck))

theorem reached_of_shared (K : Dev nD × Fin 3 → ℕ) (ck : Dev nD × Fin 3) : shared m K ⊢ reached xchE (cell ck) 0 := by
  unfold shared
  exact sep_elim_right.trans (bigSep_elim (Finset.mem_univ ck))

/-- Whose cell a device pays: its partner's, but for the departure of its own copy. -/
def pays : Dev nD × Fin 3 → Dev nD × Fin 3 := fun ck => if ck.2 = 1 then ck else (peer ck.1, ck.2)

theorem pays_pays (ck : Dev nD × Fin 3) : pays (pays ck) = ck := by
  obtain ⟨c, k⟩ := ck
  fin_cases k
  · exact Prod.ext (peer_peer c) rfl
  · rfl
  · exact Prod.ext (peer_peer c) rfl

/-- Device `c`'s own: its position on its three cells, and the tokens of the three duties it pays. -/
def mine (c : Dev nD) : sProp 𝕄 :=
  iprop((bigSep Finset.univ fun k : Fin 3 => atPos xchE (cell (c, k)) 0 ∅ 0)
    ∗ bigSep Finset.univ fun k : Fin 3 => dutyTok xchE (cell (pays (c, k))) 0 ())

/-- With the credit of the units others owe it, and the levels. -/
def start (c : Dev nD) : sProp 𝕄 :=
  iprop((∃ K, shared m K ∗ mine c) ∗ cred (tallyAt (cell (c, 0)) () 1) ∗ cred (tallyAt (cell (c, 2)) () credit) ∗ levAts owners rank)

/-- Device `c` holds its whole candidate buffer, at some contents. -/
def buffer (c : Dev nD) : sProp 𝕄 := iprop(∃ f : Buf (Elt F) ((c : Thread nD τ).loc cc0_scratch0), (((c : Thread nD τ).loc cc0_scratch0) ↦{fullShare} f))

def before (c : Dev nD) : sProp 𝕄 := iprop(start m c ∗ buffer c)
def after (c : Dev nD) : sProp 𝕄 := iprop(buffer c ∗ semVal (cell (c, 0)) 0 ∗ semVal (cell (c, 1)) 0 ∗ semVal (cell (c, 2)) 0)

/-- What the staging pipeline is told: the arrays as they stand, the block staged in and the result staged out. -/
def dat (_ : Fin 1) (c : Dev nD) : Dat τ (Elt F) Unit ℕ GU ℕ cfg0 c where
  A w := m ((cfg0.win w).arr.view.loc (c : Thread nD τ))
  after w _ := match w with
    | ⟨0, _⟩ => block m c
    | ⟨1, _⟩ => result m c
  Φ t := match t with
    | ⟨0, _⟩ => before m c
    | ⟨_ + 1, _⟩ => after c
  q _ := fullShare
  owed t := match t with
    | ⟨0, _⟩ => owed c
    | ⟨_ + 1, _⟩ => 0

abbrev vars : Variants := Variants.none

theorem bigSep_roles (Φ : Fin 3 → sProp 𝕄) : bigSep Finset.univ Φ = iprop(Φ 0 ∗ Φ 1 ∗ Φ 2) :=
  bigSep_univ_eq_bigSepL [0, 1, 2] (by decide) (by decide) Φ

/-! ## Reads and writes -/

theorem zero2 : (![0, 0] : Fin 2 → Nat) = fun _ => 0 := funext fun a => by fin_cases a <;> rfl

abbrev boxX : Rect S256x1024 := Rect.unit (s := S256x1024) ![0, 0] S256x1024.size inb_S256x1024_S256x1024_0_0
abbrev boxO : Rect S256x8 := Rect.unit (s := S256x8) ![0, 0] S256x8.size inb_S256x8_S256x8_0_0

theorem read_block (f : (cc0_stg0_0 : Ref sig .tc).ty.Contents (Elt F)) : xBuf.view.readAt (Elt F) boxX.toLoadRect f = f :=
  Memref.readAt_unit_zero (Elt F) cc0_stg0_0 zero2 _ f

theorem write_result (f w : (cc0_stg1_0 : Ref sig .tc).ty.Contents (Elt F)) :
    ((oBuf).access boxO : View sig .tc _ _ _).write (Elt F) f w Finset.univ = w :=
  Memref.write_access_unit_zero_univ (Elt F) cc0_stg1_0 zero2 _ f w

/-- The copy as the receiver's slot reads it: what the sender's slot reads. -/
theorem read_copied (f g : (cc0_scratch0 : Ref sig .tc).ty.Contents (Elt F)) :
    slot1.read (Elt F) (flat1.view.write (Elt F) f (flat0.view.read (Elt F) g) Finset.univ) = slot0.read (Elt F) g := by
  show slot1.read (Elt F) ((slot1.reshape S256x8 squeezes_S1x256x8_S256x8.numel_eq).write (Elt F) f
    ((slot0.reshape S256x8 squeezes_S1x256x8_S256x8.numel_eq).read (Elt F) g) Finset.univ) = _
  rw [View.write_reshape_univ]
  refine (View.read_write_univ _ _).trans (funext fun x => ?_)
  show slot0.read (Elt F) g (Shape.reshapeEquiv squeezes_S1x256x8_S256x8.numel_eq ((Shape.reshapeEquiv squeezes_S1x256x8_S256x8.numel_eq).symm x)) = _
  rw [Equiv.apply_symm_apply]

/-- A slot just stored reads what was stored. -/
theorem stored (c : Dev nD) (f : Buf (Elt F) (slot0.loc (c : Thread nD τ))) (w : S1x256x8.Idx → Elt F .f32) :
    (slot0.loc (c : Thread nD τ) ↦[slot0.set]{fullShare} slot0.write (Elt F) f w Finset.univ : sProp 𝕄) ⊢ holds slot0 c w := by
  unfold holds
  iintro H; iexists (slot0.write (Elt F) f w Finset.univ); isplitr; · (ipureintro; exact View.read_write_univ _ _)
  iexact H

/-- What the kernel's first store writes is `best` of the block it loaded, -/
theorem best_eq (x : S256x1024.Idx → Elt F .bf16) :
    k0_pay14 (iota .tc S256x1024 32 [1] iota_S256x1024_d1_w32) (k0_pay3 x) (k0_pay5 x)
      (k0_pay8 (iota .tc S256x1024 32 [1] iota_S256x1024_d1_w32) (k0_pay4 x) (k0_pay6 x))
      (k0_pay10 (iota .tc S256x1024 32 [1] iota_S256x1024_d1_w32) (k0_pay4 x) (k0_pay6 x))
      (k0_pay12 (iota .tc S256x1024 32 [1] iota_S256x1024_d1_w32) (k0_pay4 x) (k0_pay6 x))
      (k0_pay13 (iota .tc S256x1024 32 [1] iota_S256x1024_d1_w32) (k0_pay4 x) (k0_pay6 x)) = best x := rfl

/-- and what its second store writes is `merge` of the two slots it loaded. -/
theorem merge_eq (a b : S1x256x8.Idx → Elt F .f32) :
    k0_pay1 (iota .tc S256x16 32 [1] iota_S256x16_d1_w32) (k0_pay16 a b)
      (k0_pay19 (k0_pay15 a b) (iota .tc S256x16 32 [1] iota_S256x16_d1_w32) (k0_pay17 a b))
      (k0_pay21 (k0_pay15 a b) (iota .tc S256x16 32 [1] iota_S256x16_d1_w32) (k0_pay17 a b))
      (k0_pay23 (k0_pay15 a b) (iota .tc S256x16 32 [1] iota_S256x16_d1_w32) (k0_pay17 a b))
      (k0_pay24 (k0_pay15 a b) (iota .tc S256x16 32 [1] iota_S256x16_d1_w32) (k0_pay17 a b))
      (k0_pay25 (k0_pay15 a b) (iota .tc S256x16 32 [1] iota_S256x16_d1_w32) (k0_pay17 a b))
      (k0_pay26 (k0_pay15 a b) (iota .tc S256x16 32 [1] iota_S256x16_d1_w32) (k0_pay17 a b)) k0_pay27 = merge a b := rfl

/-! ## The copy -/

/-- The start signal hands the partner slot 1 of the signaller's buffer; -/
theorem pay_start (c : Dev nD) : pay m 0 (peer c) = iprop(free slot1 c ∗ reached xchE (cell (c, 2)) 0) := by
  show iprop(free slot1 (peer (peer c)) ∗ reached xchE (cell (peer (peer c), 2)) 0) = _
  rw [peer_peer]

/-- the departure gives back the slot the copy was taken from; -/
theorem pay_departure (c : Dev nD) (g : Buf (Elt F) (flat0.view.loc (c : Thread nD τ))) (hg : slot0.read (Elt F) g = best (block m c)) :
    (flat0.view.loc (c : Thread nD τ) ↦[flat0.view.set]{fullShare} g : sProp 𝕄) ⊢ (sched m).payload (cell (c, 1)) 0 () := by
  rw [payload_cell]; show _ ⊢ holds slot0 c _; unfold holds; rw [flat0_set]
  iintro H; iexists g; isplitr; · (ipureintro; exact hg)
  iexact H

/-- the arrival hands the receiver its slot, filled. -/
theorem pay_arrival (c : Dev nD) (f : Buf (Elt F) (flat1.view.loc (peer c : Thread nD τ))) (g : Buf (Elt F) (flat0.view.loc (c : Thread nD τ)))
    (hg : slot0.read (Elt F) g = best (block m c)) :
    (flat1.view.loc (peer c : Thread nD τ) ↦[flat1.view.set]{fullShare} (flat1.view.write (Elt F) f (flat0.view.read (Elt F) g) Finset.univ) : sProp 𝕄)
      ⊢ (sched m).payload (cell (peer c, 2)) 0 () := by
  rw [payload_cell]; show _ ⊢ holds slot1 (peer c) (best (block m (peer (peer c)))); unfold holds; rw [flat1_set, peer_peer]
  iintro H; iexists _; isplitr; · (ipureintro; exact (read_copied f g).trans hg)
  iexact H

theorem wp_copy (K : Dev nD × Fin 3 → ℕ) (c n : Dev nD) (hn : n = peer c) {hsc : (flat1 : Memref sig (Dev.tc n : Thread nD τ).2.kind .vmem S256x8 .f32).view.ref.isScScratch = false}
    {hsrc : flat0.view.WordExact} {hdst : flat1.view.WordExact}
    {hsem : DmaTarget.Typed .vmem (.dma inSem.sem) (.remote (Dev.tc n : Thread nD τ) flat1 (.dma outSem.sem) hsc)}
    {α : Type} {Q : α → sProp 𝕄} {k : PUnit → Prog (TpuEff nD τ sig (Elt F) Λ₀ .tc) α} (W : Waits sig Unit)
    (f : Buf (Elt F) (flat1.view.loc (peer c : Thread nD τ))) (g : Buf (Elt F) (flat0.view.loc (c : Thread nD τ)))
    (hg : slot0.read (Elt F) g = best (block m c)) :
    iprop(cellInv xchE (sched m) (K (c, 1)) (cell (c, 1)) ∗ cellInv xchE (sched m) (K (peer c, 2)) (cell (peer c, 2))
        ∗ (flat0.view.loc (c : Thread nD τ) ↦[flat0.view.set]{fullShare} g) ∗ (flat1.view.loc (peer c : Thread nD τ) ↦[flat1.view.set]{fullShare} f)
        ∗ owes (c : Thread nD τ) (owedCopy c) W
        ∗ dutyTok xchE (cell (c, 1)) 0 () ∗ reached xchE (cell (c, 1)) 0
        ∗ dutyTok xchE (cell (peer c, 2)) 0 () ∗ reached xchE (cell (peer c, 2)) 0)
      ⊢ iprop(((cred (tallyAt (cell (c, 1)) () credit) ∗ owes (c : Thread nD τ) 0 W) -∗ wp frame (wpE (defs₀ (F := F)) vars (c : Thread nD τ) none) Set.univ (k ⟨⟩) Q)
          -∗ wp frame (wpE (defs₀ (F := F)) vars (c : Thread nD τ) none) Set.univ
              (.op (.enqueueDma flat0 (.remote (Dev.tc n : Thread nD τ) flat1 (.dma outSem.sem) hsc) (.dma inSem.sem) hsrc hdst hsem) k) Q) := by
  subst hn
  exact Rounds.wp_send_pointsTo vars xchE (sched m) (c : Thread nD τ) none (κ₁ := K (c, 1)) (κ₂ := K (peer c, 2))
    (r₁ := 0) (r₂ := 0) (d₁ := ()) (d₂ := ()) (fd := f)
    (mem_duties m c 1) (mem_duties m (peer c) 2)
    () () credit rfl (amount_cell m c 1) (amount_cell m (peer c) 2) 0 (by unfold owedCopy; rw [zero_add]) (W := W)
    (pay_departure m c g hg) (pay_arrival m c f g hg)

/-! ## The body -/

/-- A staging buffer of device `c` holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := GU) (Lvl := ℕ) (c : Thread nD τ) (Memref.whole b) fullShare X : sProp 𝕄) = staged c b X := by
  unfold owns; simp only [Memref.view_whole, View.read_whole, View.set_whole]

theorem one_point (t : Fin cfg0.N) : t = ⟨0, by decide⟩ := by
  obtain ⟨t, ht⟩ := t
  have h : cfg0.N = 1 := by decide
  exact Fin.ext (by show t = 0; omega)

def bodyFrom (c : Dev nD) : sProp 𝕄 :=
  iprop(before m c ∗ (dat m 0 c).owesAt () (⟨0, by decide⟩ : Fin cfg0.N).castSucc
    ∗ (∃ d, staged c cc0_stg0_0 ((dat m 0 c).before (0 : Fin 2) ⟨0, by decide⟩ d))
    ∗ (∃ d, staged c cc0_stg1_0 ((dat m 0 c).before (1 : Fin 2) ⟨0, by decide⟩ d)))

def bodyTo (c : Dev nD) : sProp 𝕄 :=
  iprop(after c ∗ (dat m 0 c).owesAt () (⟨0, by decide⟩ : Fin cfg0.N).succ ∗ staged c cc0_stg0_0 (block m c) ∗ staged c cc0_stg1_0 (result m c))

set_option maxHeartbeats 1600000 in
/-- One device's kernel, effect by effect. -/
theorem body_sound (c : Dev nD) (Kt : PUnit → sProp 𝕄) :
    iprop(bodyFrom m c ∗ (bodyTo m c -∗ Kt ⟨⟩))
      ⊢ wp frame (wpE (defs₀ (F := F)) vars c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId, signal_to c]
  unfold bodyFrom before start mine buffer
  rw [bigSep_roles, bigSep_roles]
  iintro ⟨⟨⟨⟨⟨%K, #Hsh, ⟨HatB, HatD, HatA⟩, HtB, HtD, HtA⟩, HcB, HcA, #Hlev⟩, ⟨%f0, Hbuf⟩⟩, Ho, ⟨%d0, %g0, %hg0, Hx⟩, ⟨%d1, %g1, %hg1, Hout⟩⟩, Hk⟩
  have hx : g0 = block m c := by rw [hg0]; unfold Dat.before; rw [if_pos (fetch0_0 _)]; rfl
  subst hx
  ihave Hslots := (split_cand c f0) $$ Hbuf
  icases Hslots with ⟨H0, H1⟩
  unfold Dat.owesAt Pipeline.owesWithin
  icases Ho with ⟨%W, %hW, HO⟩
  rw [show (dat m 0 c).owed (⟨0, by decide⟩ : Fin cfg0.N).castSucc = owed c from rfl]
  -- the start signal: slot 1 goes to the partner
  iapply (Rounds.wp_signal vars xchE (sched m) (c : Thread nD τ) none (dst := (peer c : Thread nD τ)) (κ := K (peer c, 0))
      (d := ()) (mem_duties m (peer c) 0) ((amount_cell m (peer c) 0).trans (by decide)) () (owedCopy c) rfl)
    $$ [HO HtB H1]
  · isplitr; · iapply (inv_of_shared m K (peer c, 0)); iexact Hsh
    isplitl [HO]; · iexact HO
    isplitl [HtB]; · iexact HtB
    isplitl [H1]
    · iapply (Entails.of_eq (payload_cell m (peer c) 0).symm); iapply (Entails.of_eq (pay_start m c).symm)
      isplitl [H1]; · iexact H1
      iapply (reached_of_shared m K (c, 2)); iexact Hsh
    · iapply (reached_of_shared m K (peer c, 0)); iexact Hsh
  iintro HO
  -- the partner's start signal: its slot 1
  iapply (Rounds.wp_wait_rest_token vars xchE (sched m) (c : Thread nD τ) none (κ := K (c, 0))
      (wpE_semWait_eq vars (c : Thread nD τ) none Set.univ) (Set.mem_univ _) () (O := owedCopy c) (W := W) (R := 0) (m := 0) (T := ∅)
      ((expect_cell m c 0).trans (by decide)).symm) $$ [HcB HO HatB]
  · isplitr; · iapply (inv_of_shared m K (c, 0)); iexact Hsh
    isplitl [HcB]; · iexact HcB
    isplitl [HO]; · iexact HO
    isplitr; · iapply (mayWait_barrier c); iexact Hlev
    iexact HatB
  iintro ⟨HO, HatB, -, Hpay⟩
  ihave Hp := (Entails.of_eq (rest_cell m c 0)) $$ Hpay
  unfold pay free
  icases Hp with ⟨⟨%fn, Hpeer⟩, -⟩
  icases H0 with ⟨%f, H0⟩
  -- the first selection
  iapply (wp_load vars (c : Thread nD τ) none Set.univ (m := xBuf) (Finset.subset_univ _)) $$ Hx; iintro Hx
  rw [read_block]
  iapply (wp_load_rect vars (c : Thread nD τ) none Set.univ (m := cand) (Finset.Subset.refl _)) $$ H0; iintro H0
  iapply (wp_store vars (c : Thread nD τ) none Set.univ (m := cand) (r := box0) (Mk := Finset.univ) (by rw [View.setOn_univ])) $$ H0; iintro H0
  -- slot 0 to the partner's slot 1
  rw [best_eq]
  ihave Hs := (stored c f (best (block m c))) $$ H0
  unfold holds
  icases Hs with ⟨%g, %hg, H0⟩
  iapply (wp_copy m K c _ (copy_to c) (insert (SemLoc.reg barSem, ()) W) fn g hg) $$ [H0 Hpeer HO HtD HtA]
  · isplitr; · iapply (inv_of_shared m K (c, 1)); iexact Hsh
    isplitr; · iapply (inv_of_shared m K (peer c, 2)); iexact Hsh
    isplitl [H0]; · rw [flat0_set]; iexact H0
    isplitl [Hpeer]; · rw [flat1_set]; iexact Hpeer
    isplitl [HO]; · iexact HO
    isplitl [HtD]; · iexact HtD
    isplitr; · iapply (reached_of_shared m K (c, 1)); iexact Hsh
    isplitl [HtA]; · iexact HtA
    iapply (reached_of_shared m K (peer c, 2)); iexact Hsh
  iintro ⟨HcD, HO⟩
  -- the departure: slot 0 back
  iapply (Rounds.wp_wait_rest_token vars xchE (sched m) (c : Thread nD τ) none (κ := K (c, 1))
      (wpE_waitDma2_eq vars (c : Thread nD τ) none Set.univ) (Set.mem_univ _) () (O := 0) (W := insert (SemLoc.reg barSem, ()) W) (R := 0) (m := 0) (T := ∅)
      (by rw [Nat.zero_add]; exact (expect_cell m c 1).symm)) $$ [HcD HO HatD]
  · isplitr; · iapply (inv_of_shared m K (c, 1)); iexact Hsh
    isplitl [HcD]; · iexact HcD
    isplitl [HO]; · iexact HO
    isplitr; · rw [MayWait_zero]; iempintro
    iexact HatD
  iintro ⟨HO, HatD, -, Hpay⟩
  ihave Hp0 := (Entails.of_eq (rest_cell m c 1)) $$ Hpay
  -- the arrival: slot 1 with the partner's candidates
  iapply (Rounds.wp_wait_rest_token vars xchE (sched m) (c : Thread nD τ) none (κ := K (c, 2))
      (wpE_waitDma2_eq vars (c : Thread nD τ) none Set.univ) (Set.mem_univ _) () (O := 0)
      (W := insert (SemLoc.dma outSem.sem, ()) (insert (SemLoc.reg barSem, ()) W)) (R := 0) (m := 0) (T := ∅)
      (by rw [Nat.zero_add]; exact (expect_cell m c 2).symm)) $$ [HcA HO HatA]
  · isplitr; · iapply (inv_of_shared m K (c, 2)); iexact Hsh
    isplitl [HcA]; · iexact HcA
    isplitl [HO]; · iexact HO
    isplitr; · rw [MayWait_zero]; iempintro
    iexact HatA
  iintro ⟨HO, HatA, -, Hpay⟩
  ihave Hp1 := (Entails.of_eq (rest_cell m c 2)) $$ Hpay
  -- the three semaphores close at zero
  imod (Rounds.cell_close xchE (sched m) (Set.mem_univ (K (c, 0))) (fun h => h) (R := 0 + 1) (no_duties m (cell (c, 0)))) $$ [HatB] with HzB
  · isplitr; · iapply (inv_of_shared m K (c, 0)); iexact Hsh
    iexact HatB
  imod (Rounds.cell_close xchE (sched m) (Set.mem_univ (K (c, 1))) (fun h => h) (R := 0 + 1) (no_duties m (cell (c, 1)))) $$ [HatD] with HzD
  · isplitr; · iapply (inv_of_shared m K (c, 1)); iexact Hsh
    iexact HatD
  imod (Rounds.cell_close xchE (sched m) (Set.mem_univ (K (c, 2))) (fun h => h) (R := 0 + 1) (no_duties m (cell (c, 2)))) $$ [HatA] with HzA
  · isplitr; · iapply (inv_of_shared m K (c, 2)); iexact Hsh
    iexact HatA
  -- the second selection
  unfold pay holds
  icases Hp0 with ⟨%e0, %he0, H0⟩
  icases Hp1 with ⟨%e1, %he1, H1⟩
  iapply (wp_load_rect vars (c : Thread nD τ) none Set.univ (m := cand) (Finset.Subset.refl _)) $$ H0; iintro H0
  rw [he0]
  iapply (wp_load_rect vars (c : Thread nD τ) none Set.univ (m := cand) (Finset.Subset.refl _)) $$ H1; iintro H1
  rw [he1, merge_eq]
  iapply (wp_load vars (c : Thread nD τ) none Set.univ (m := oBuf) (Finset.subset_univ _)) $$ Hout; iintro Hout
  iapply (wp_store vars (c : Thread nD τ) none Set.univ (m := oBuf) (r := boxO) (Mk := Finset.univ) (Finset.subset_univ _)) $$ Hout; iintro Hout
  rw [write_result, wp_ret]; imodintro
  iapply Hk
  unfold bodyTo after buffer Dat.owesAt Pipeline.owesWithin
  rw [show (dat m 0 c).owed (⟨0, by decide⟩ : Fin cfg0.N).succ = 0 from rfl]
  isplitl [H0 H1 HzB HzD HzA]
  · isplitl [H0 H1]
    · iapply (join_cand c (best (block m c)) (best (block m (peer c))))
      unfold holds
      isplitl [H0]
      · iexists e0; isplitr; · (ipureintro; exact he0)
        iexact H0
      · iexists e1; isplitr; · (ipureintro; exact he1)
        iexact H1
    isplitl [HzB]; · iexact HzB
    isplitl [HzD] <;> iassumption
  isplitl [HO]
  · iexists (insert (SemLoc.dma inSem.sem, ()) (insert (SemLoc.dma outSem.sem, ()) (insert (SemLoc.reg barSem, ()) W)))
    isplitr; · ipureintro; exact fun _ _ => Or.inl trivial
    iexact HO
  isplitl [Hx]
  · iexists _; isplitr; · (ipureintro; rfl)
    iexact Hx
  iexists _
  isplitr
  rotate_left
  · iexact Hout
  · ipureintro; rfl

/-- The same, as the staging pipeline asks for it. -/
theorem body_obligation (c : Dev nD) : BodyObligation (dat (F := F) m 0 c) (defs₀ (F := F)) vars () Set.univ := fun t => by
  rw [one_point t, bigSep_W0, bigSep_W0]
  simp only [owns_staged]
  show bodyFrom m c ⊢ wp frame (wpE (defs₀ (F := F)) vars c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyTo m c)
  iintro H
  iapply (body_sound m c fun _ => bodyTo m c)
  isplitl [H]; · iexact H
  iintro H; iexact H

end Cert.KernelIdeal.Exchange

end
-- ==== Proof.Run.lean ====
/-
# The whole launch

From any memory with its counters at zero, every fair run of the eight devices ends, with the argument as it was, each
device's result array at `Exchange.result`, and every counter back at zero.
-/
module

public import proofs.«01_k».proof.Proof.Exchange
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ GU ℕ

variable (m : (ℓ : Loc nD τ sig) → Buf (Elt F) ℓ) (ρ : Dev nD → PrngReg)

/-! ## The protocol's ghost state, minted -/

/-- A launch's own two semaphores are the copy's. -/
abbrev ownSem : Fin 2 → SemLoc sig := fun | 0 => .dma outSem.sem | 1 => .dma inSem.sem

theorem ownSem_facts : Pipeline.OwnSemFacts cfg0.spec ownSem := by decide

def cellSet : Finset (GSem nD τ sig) := Finset.univ.map ⟨cell, cell_injective⟩

/-- The token of the duty on each cell. -/
def tokenSet : Finset (GSem nD τ sig × ℕ × Unit) :=
  Finset.univ.map ⟨fun ck : Dev nD × Fin 3 => (cell ck, 0, ()), fun a b h => cell_injective (congrArg Prod.fst h)⟩

def ghost₀ : GU :=
  (initOf (Pipeline.cells cfgs cellOf_inj) (Pipeline.launchToks cfgs cellOf_inj), initOf cellSet tokenSet)

/-- What device `c` is dealt: its three cells' states and positions, and the tokens of the duties ON them. -/
def dealt (c : Dev nD) : sProp 𝕄 :=
  iprop((bigSep Finset.univ fun k : Fin 3 => roundState xchE (sched m) (cell (c, k)) 0)
    ∗ (bigSep Finset.univ fun k : Fin 3 => iprop(atPos xchE (cell (c, k)) 0 ∅ 0 ∗ reached xchE (cell (c, k)) 0))
    ∗ bigSep Finset.univ fun k : Fin 3 => dutyTok xchE (cell (c, k)) 0 ())

theorem deal : BI.own (xchE (initOf cellSet tokenSet)) ⊢ (|==> bigSep Finset.univ (dealt m) : sProp 𝕄) := by
  have hX (Φ : GSem nD τ sig → sProp 𝕄) : bigSep cellSet Φ = bigSep Finset.univ fun c : Dev nD => bigSep Finset.univ fun k : Fin 3 => Φ (cell (c, k)) := by
    unfold cellSet; rw [bigSep_map, bigSep_univ_prod]; rfl
  have hT : bigSep tokenSet (fun x => (dutyTok xchE x.1 x.2.1 x.2.2 : sProp 𝕄))
      = bigSep Finset.univ fun c : Dev nD => bigSep Finset.univ fun k : Fin 3 => dutyTok xchE (cell (c, k)) 0 () := by
    unfold tokenSet; rw [bigSep_map, bigSep_univ_prod]; rfl
  iintro HX
  imod (Rounds.fund xchE (sched m) cellSet tokenSet) $$ HX with ⟨Hst, Hr, Hat, Htok⟩
  imodintro
  ihave Hst' := (Entails.of_eq (hX fun g => roundState xchE (sched m) g 0)) $$ Hst
  ihave Hat' := (Entails.of_eq (hX fun g => atPos xchE g 0 ∅ 0)) $$ Hat
  ihave Hr' := (Entails.of_eq (hX fun g => reached xchE g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## From the counters and the deal to what the bodies start from -/

abbrev ownCounters (c : Dev nD) : sProp 𝕄 :=
  Pipeline.ownSems0 (Ix := Unit) (Name := ℕ) (U := GU) (Lvl := ℕ) (Val := Elt F) (τ := τ) ownSem c

theorem ownCounters_eq (c : Dev nD) : (ownCounters c : sProp 𝕄) = iprop(semVal (cell (c, 1)) 0 ∗ semVal (cell (c, 2)) 0) := by
  unfold ownCounters
  rw [Pipeline.ownSems0_eq_of_list c ownSem [0, 1] (by decide) (by decide)]; rfl

theorem barrierCounter_eq (c : Dev nD) : (unscopedSems0 c : sProp 𝕄) = semVal (cell (c, 0)) 0 := by
  unfold unscopedSems0; rw [bigSep_eq_bigSepL_of_eq [SemLoc.reg barSem] (by decide) (by decide)]; rfl

theorem counters_eq (c : Dev nD) :
    iprop(ownCounters c ∗ unscopedSems0 c) ⊢ (bigSep Finset.univ fun k : Fin 3 => semVal (cell (c, k)) 0 : sProp 𝕄) := by
  rw [ownCounters_eq, barrierCounter_eq, bigSep_roles]
  iintro ⟨⟨HD, HA⟩, HB⟩
  isplitl [HB]; · iexact HB
  isplitl [HD] <;> iassumption

/-- Device `c`'s cells, shut: their invariants allocated. -/
def opened (c : Dev nD) : sProp 𝕄 :=
  iprop((bigSep Finset.univ fun k : Fin 3 => iprop(∃ κ : ℕ, cellInv xchE (sched m) κ (cell (c, k))))
    ∗ (bigSep Finset.univ fun k : Fin 3 => iprop(atPos xchE (cell (c, k)) 0 ∅ 0 ∗ reached xchE (cell (c, k)) 0))
    ∗ bigSep Finset.univ fun k : Fin 3 => dutyTok xchE (cell (c, k)) 0 ())

theorem open_cells (c : Dev nD) : iprop(ownCounters c ∗ unscopedSems0 c ∗ dealt m c) ⊢ |={Set.univ}=> opened m c := by
  unfold dealt opened
  iintro ⟨Hos, Hus, Hst, Hat, Htok⟩
  ihave Hv := (counters_eq (F := F) c) $$ [Hos Hus]
  · isplitl [Hos] <;> iassumption
  imod (show iprop((bigSep Finset.univ fun k : Fin 3 => semVal (cell (c, k)) 0) ∗ bigSep Finset.univ fun k : Fin 3 => roundState xchE (sched m) (cell (c, k)) 0)
      ⊢ (|={Set.univ}=> bigSep Finset.univ fun k => iprop(∃ κ : ℕ, cellInv xchE (sched m) κ (cell (c, k))) : sProp 𝕄) from by
        rw [← bigSep_sep']
        exact (bigSep_mono fun k _ => (Rounds.body_intro xchE (sched m) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- `pays` is an involution of the cells: every duty's token goes to the one device that pays it. -/
def paysEquiv : Dev nD × Fin 3 ≃ Dev nD × Fin 3 := ⟨pays, pays, pays_pays, pays_pays⟩

theorem tokens_to_payers :
    (bigSep Finset.univ fun c : Dev nD => bigSep Finset.univ fun k : Fin 3 => (dutyTok xchE (cell (c, k)) 0 () : sProp 𝕄))
      = bigSep Finset.univ fun c : Dev nD => bigSep Finset.univ fun k : Fin 3 => dutyTok xchE (cell (pays (c, k))) 0 () := by
  rw [← bigSep_univ_prod (fun ck : Dev nD × Fin 3 => (dutyTok xchE (cell ck) 0 () : sProp 𝕄)),
    ← bigSep_univ_prod (fun ck : Dev nD × Fin 3 => (dutyTok xchE (cell (pays ck)) 0 () : sProp 𝕄)),
    bigSep_univ_equiv paysEquiv (fun ck : Dev nD × Fin 3 => (dutyTok xchE (cell ck) 0 () : sProp 𝕄))]
  rfl

/-- What a body starts from, up to the credit. -/
def given (c : Dev nD) : sProp 𝕄 := iprop(∃ K, shared m K ∗ mine c)

theorem share_out : (bigSep Finset.univ fun c : Dev nD => (opened m c : sProp 𝕄)) ⊢ bigSep Finset.univ (given m) := by
  unfold opened
  rw [bigSep_sep', bigSep_sep', ← bigSep_univ_prod (fun ck : Dev nD × Fin 3 => iprop(∃ κ : ℕ, cellInv xchE (sched m) κ (cell ck))),
    bigSep_congr (s := Finset.univ) (fun (c : Dev nD) _ => bigSep_sep' Finset.univ (fun k : Fin 3 => (atPos xchE (cell (c, k)) 0 ∅ 0 : sProp 𝕄)) (fun k => reached xchE (cell (c, k)) 0)),
    bigSep_sep', ← bigSep_univ_prod (fun ck : Dev nD × Fin 3 => (reached xchE (cell ck) 0 : sProp 𝕄)), tokens_to_payers]
  iintro ⟨HI, ⟨Hat, #HR⟩, Htok⟩
  ihave HK := (BI.bigSep_exists_pi Finset.univ (fun (ck : Dev nD × Fin 3) (κ : ℕ) => (cellInv xchE (sched m) κ (cell ck) : sProp 𝕄))) $$ HI
  icases HK with ⟨%K, #HI⟩
  iapply (show iprop(shared m K ∗ bigSep Finset.univ fun c : Dev nD => (mine c : sProp 𝕄)) ⊢ bigSep Finset.univ (given m) from
    (sep_mono_left (BI.bigSep_of_persistent Finset.univ (shared m K))).trans (by
      rw [← bigSep_sep']
      refine bigSep_mono fun c _ => ?_
      unfold given
      exact exists_intro (Φ := fun K => iprop(shared m K ∗ mine c)) K))
  isplitr
  · unfold shared; isplitl; · iexact HI
    iexact HR
  · unfold mine; rw [bigSep_sep']
    isplitl [Hat] <;> iassumption

theorem all_given : (bigSep Finset.univ fun c => iprop(ownCounters c ∗ unscopedSems0 c ∗ dealt m c) : sProp 𝕄)
    ⊢ |={Set.univ}=> bigSep Finset.univ (given m) :=
  ((bigSep_mono fun c _ => open_cells m c).trans (bigSep_fupd _ _)).trans (BI.fupd_mono (share_out m))

/-! ## The credit a device starts with: what its partner owes it -/

theorem cell_eq_iff {a b : Dev nD} {k l : Fin 3} : cell (a, k) = cell (b, l) ↔ a = b ∧ k = l :=
  ⟨fun h => Prod.mk.inj (cell_injective h), fun h => by rw [h.1, h.2]⟩

theorem owed_at (d c : Dev nD) (k : Fin 3) :
    owed d (cell (c, k)) () = if d = peer c then (match k with | 0 => 1 | 1 => 0 | 2 => credit) else 0 := by
  have hp : (c = peer d) ↔ (d = peer c) := ⟨fun h => by rw [h, peer_peer], fun h => by rw [h, peer_peer]⟩
  unfold owed owedCopy
  rw [Pi.add_apply, Finsupp.add_apply, tallyAt_apply, tallyAt_apply]
  simp only [cell_eq_iff, hp]
  by_cases h : d = peer c
  · fin_cases k <;> simp [h]
  · simp [h]

theorem launch_credit (c : Dev nD) (k : Fin 3) (n : ℕ) (hn : (match k with | 0 => 1 | 1 => 0 | 2 => credit) = n) :
    tallyOn (cell (c, k)) (launchCredit (Pipeline.owing owed) 0 (cell (c, k))) = (tallyAt (cell (c, k)) () n : CellTallies nD τ sig Unit) := by
  subst hn
  unfold tallyAt; refine congrArg _ (Finsupp.ext fun u => ?_); cases u
  rw [Pipeline.launchCredit_owing, Finsupp.single_eq_same, Finset.sum_congr rfl fun d _ => owed_at d c k,
    Finset.sum_ite_eq' Finset.univ (peer c) fun _ => _, if_pos (Finset.mem_univ _)]

theorem credits (c : Dev nD) :
    (Pipeline.launchCred owed c : sProp 𝕄) ⊢ iprop(cred (tallyAt (cell (c, 0)) () 1) ∗ cred (tallyAt (cell (c, 2)) () credit)) := by
  unfold Pipeline.launchCred
  rw [bigSep_univ_at _ (roleSem 0), launch_credit c 0 1 rfl]
  refine sep_mono_right ?_
  rw [← launch_credit c 2 credit rfl]
  exact bigSep_elim (Finset.mem_erase.mpr ⟨fun h => absurd (roleSem_injective h : (2 : Fin 3) = 0) (by decide), Finset.mem_univ _⟩)

/-! ## The run -/

theorem start_intro (c : Dev nD) :
    iprop(Pipeline.unscopedRestP Pipeline.Prefetch.none cfg0.spec c (fun b => m ((c : Thread nD τ).loc b)) ∗ levAts owners rank
        ∗ Pipeline.launchCred owed c ∗ prngReg c (ρ c) ∗ given m c)
      ⊢ |={Set.univ}=> iprop(start m c ∗ emp) := by
  iintro ⟨-, Hlev, Hcr, -, HG⟩
  ihave Hc := (credits (F := F) c) $$ Hcr
  icases Hc with ⟨H1, HN⟩
  imodintro
  unfold start given
  isplitl
  · isplitl [HG]; · iexact HG
    isplitl [H1]; · iexact H1
    isplitl [HN] <;> iassumption
  · iempintro

theorem before_intro (c : Dev nD) :
    iprop(start m c ∗ Pipeline.prefHeld Pipeline.Prefetch.none c (fun _ => fullShare.right) (fun k => k.elim0) ∗ Pipeline.scopedRest cfg0.spec c)
      ⊢ (dat m 0 c).Φ 0 := by
  rw [show (dat m 0 c).Φ 0 = before m c from rfl, scopedRest0_eq]
  unfold before buffer
  iintro ⟨Hs, -, Hr⟩
  isplitl [Hs] <;> iassumption

theorem after_exit (c : Dev nD) :
    (dat m 0 c).Φ (Fin.last cfg0.N) ⊢ iprop(unscopedSems0 c ∗ ownCounters c ∗ Pipeline.scopedRest cfg0.spec c) := by
  rw [show (dat m 0 c).Φ (Fin.last cfg0.N) = after c from rfl, scopedRest0_eq, ownCounters_eq, barrierCounter_eq]
  unfold after buffer
  iintro ⟨Hr, HzB, HzD, HzA⟩
  isplitl [HzB]; · iexact HzB
  isplitl [HzD HzA]
  · isplitl [HzD] <;> iassumption
  iexact Hr

theorem waits (c : Dev nD) : (levAts owners rank : sProp 𝕄) ⊢ Pipeline.cellsWaits cfgs (dat m) () 0 c :=
  Pipeline.cellsWaits_intro cfgs (dat m) () 0 c fun w s t =>
    mayWait_staging c _ (by fin_cases w <;> fin_cases s <;> decide) _ (by
      rcases t with ⟨_ | _, ht⟩
      · exact Or.inl rfl
      · exact Or.inr rfl)

theorem share_full (c : Dev nD) (w : Fin cfg0.W) : (dat m 0 c).share w = fullShare := by unfold Dat.share; split <;> rfl

/-- The arrays of the launch after the run. -/
def arrays (c : Dev nD) (w : Fin cfg0.W) : Buf (Elt F) ((cfg0.win w).arr.view.loc (c : Thread nD τ)) := (dat m 0 c).arrAt w cfg0.N

set_option maxRecDepth 8000 in
theorem run_arrays : θ_run defs (onTc (τ := τ) (main (F := F))) (⟨m, fun _ => 0, ρ⟩ : MemSt nD τ sig (Elt F))
    (fun r => (∀ c : Dev nD, ∀ w : Fin cfg0.W, r.2.mem ((cfg0.win w).arr.view.loc (c : Thread nD τ)) = arrays m c w) ∧ r.2.sem = fun _ => 0) :=
  Pipeline.θ_run_region_owing_glob_pf (fun p => (cfgs p).toPCfg) (fun p => (cfgs p).toPCfg_adm) (dat m) () cellOf_inj (0 : Fin 1)
    winFacts0.to₀ ownSem_facts (Pipeline.PreFacts.none _) pipeE defs₀ vars m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed) (howed₀ := fun _ => rfl) (howedN := fun _ => rfl)
    (L := owners) (lv := rank) (hL := owners_ne) (hwaits := waits m)
    (G := dealt m) (G' := given m) (u₀ := ghost₀)
    (hu₀ := by
      unfold ghost₀
      iintro Hu
      ihave H := (ownU_pair _ _) $$ Hu
      icases H with ⟨HP, HX⟩
      imod (deal m) $$ HX with HG
      imodintro
      isplitl [HP] <;> iassumption)
    (hglob := all_given m)
    (hA := fun _ _ => rfl) (hpf := fun _ k => k.elim0)
    (X := start m) (Y := fun c => unscopedSems0 c) (Z := fun _ => iprop(emp))
    (hX := start_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays, read -/

/-- The one block of the input is the whole array, -/
theorem block_eq (c : Dev nD) : block m c = m ((c : Thread nD τ).loc main_arg0) :=
  Memref.read_access_unit_zero (Elt F) main_arg0 (off := (win0_0.rect (0 : Fin 1)).off) (funext fun a => by fin_cases a <;> rfl) _ _

/-- the input array is never written, -/
theorem arrays_in (c : Dev nD) : arrays m c (0 : Fin 2) = m ((c : Thread nD τ).loc main_arg0) :=
  (dat (F := F) m 0 c).arrAt_in (0 : Fin 2) rfl _

/-- and the one block of the output, written back, is the whole result. -/
theorem arrays_out (c : Dev nD) : arrays m c (1 : Fin 2) = result m c :=
  ((dat (F := F) m 0 c).arrAt_succ (1 : Fin 2) ⟨0, by decide⟩).trans ((if_pos (flush0_1 _)).trans
    (Memref.write_access_unit_zero_univ (Elt F) main_v1 (off := (win0_1.rect (0 : Fin 1)).off) (funext fun a => by fin_cases a <;> rfl) _ _ _))

/-- From any memory with zero counters every fair run ends, each device's argument as it was, its result array at
    `result`, and every counter at zero. -/
theorem run_main : θ_run defs (onTc (τ := τ) (main (F := F))) (⟨m, fun _ => 0, ρ⟩ : MemSt nD τ sig (Elt F))
    (fun r => (∀ c : Dev nD, r.2.mem ((c.tc : Thread nD τ).loc main_arg0) = m ((c.tc : Thread nD τ).loc main_arg0)
      ∧ r.2.mem ((c.tc : Thread nD τ).loc main_v1) = merge (best (m ((c.tc : Thread nD τ).loc main_arg0))) (best (m (((peer c).tc : Thread nD τ).loc main_arg0))))
      ∧ r.2.sem = fun _ => 0) :=
  (θ_run defs _ _).mono (fun r h => ⟨fun c => ⟨(h.1 c (0 : Fin 2)).trans (arrays_in m c), (h.1 c (1 : Fin 2)).trans ((arrays_out m c).trans (by
    unfold result; rw [block_eq, block_eq]))⟩, h.2⟩) (run_arrays m ρ)

end Cert.KernelIdeal.Exchange

end
-- ==== Proof.Rounds.lean ====
/-
# Taking the greatest entry eight times

A row is a function from its positions to the extended reals. One round reads off the greatest entry and replaces one
entry equal to it by ⊥, the least extended real. Rounds on a row of at least `k` entries read off its `k` greatest
entries in descending order, an entry that occurs twice being read twice (`tops_eq`). Nothing here speaks of a kernel.
-/
module

public import Mathlib.Data.EReal.Basic
public import Mathlib.Data.Finset.Lattice.Fold
public import Mathlib.Data.Fintype.Basic
public import Mathlib.Data.List.FinRange
public import Idealize.ShloMosaic.Lib.SortNet.TopList

@[expose] public section

namespace Cert.TopRounds

open Idealize.ShloMosaic.SortNet
open scoped List

variable {n : Nat}

/-- The greatest entry of a row (⊥ for the empty row). -/
noncomputable def top (f : Fin n → EReal) : EReal := Finset.univ.sup f

/-- No entry exceeds the greatest one. -/
theorem le_top (f : Fin n → EReal) (i : Fin n) : f i ≤ top f := Finset.le_sup (Finset.mem_univ i)

/-- A row with at least one position attains its greatest entry. -/
theorem exists_eq_top (f : Fin n → EReal) (hn : 0 < n) : ∃ i, f i = top f := by
  obtain ⟨i, _, hi⟩ := Finset.exists_mem_eq_sup Finset.univ (⟨⟨0, hn⟩, Finset.mem_univ _⟩ : Finset.Nonempty _) f
  exact ⟨i, hi.symm⟩

/-- `g` is `f` with one of its greatest entries replaced by ⊥. -/
def Struck (f g : Fin n → EReal) : Prop := ∃ a, f a = top f ∧ g = Function.update f a ⊥

/-- The greatest of a list whose head is at least every other entry: the head, then the greatest of the rest. -/
theorem topList_cons_of_le (k : Nat) (m : EReal) (l : List EReal) (h : ∀ b ∈ l, b ≤ m) :
    topList (k + 1) (m :: l) = m :: topList k l := by
  unfold topList
  have hs : (m :: l.insertionSort (· ≥ ·)).Pairwise (· ≥ ·) :=
    List.pairwise_cons.mpr ⟨fun b hb => h b ((List.mem_insertionSort (· ≥ ·)).mp hb), List.pairwise_insertionSort (· ≥ ·) l⟩
  have hp : (m :: l.insertionSort (· ≥ ·)).Perm ((m :: l).insertionSort (· ≥ ·)) :=
    ((List.perm_insertionSort (· ≥ ·) l).cons m).trans (List.perm_insertionSort (· ≥ ·) (m :: l)).symm
  rw [← eq_of_perm_of_descending hp hs (List.pairwise_insertionSort (· ≥ ·) _), List.take_succ_cons]

/-- A row's entries are its entry at a position and the entries at the other positions. -/
theorem ofFn_perm (f : Fin n → EReal) (a : Fin n) :
    (List.ofFn f).Perm (f a :: ((List.finRange n).erase a).map f) := by
  rw [List.ofFn_eq_map, ← List.map_cons]
  exact (List.perm_cons_erase (List.mem_finRange a)).map f

/-- One round: the `k + 1` greatest of a row are its greatest entry and the `k` greatest of the struck row. -/
theorem topList_struck {f g : Fin n → EReal} (h : Struck f g) (k : Nat) (hk : k + 1 ≤ n) :
    topList (k + 1) (List.ofFn f) = top f :: topList k (List.ofFn g) := by
  obtain ⟨a, ha, rfl⟩ := h
  set rest : List EReal := ((List.finRange n).erase a).map f with hrest
  have hlen : rest.length = n - 1 := by
    rw [hrest, List.length_map, List.length_erase_of_mem (List.mem_finRange a), List.length_finRange]
  have hg : (List.ofFn (Function.update f a ⊥)).Perm (rest ++ [⊥]) := by
    have h1 := ofFn_perm (Function.update f a ⊥) a
    have h2 : ((List.finRange n).erase a).map (Function.update f a ⊥) = rest :=
      List.map_congr_left fun b hb =>
        Function.update_of_ne (fun e => (List.nodup_finRange n).not_mem_erase (e ▸ hb)) _ _
    rw [Function.update_self, h2] at h1
    exact h1.trans (List.perm_append_singleton _ _).symm
  rw [topList_perm (ofFn_perm f a), topList_perm hg, ← hrest, ha,
    topList_cons_of_le k (top f) rest (fun b hb => by
      obtain ⟨i, _, rfl⟩ := List.mem_map.mp hb; exact le_top f i),
    topList_append_of_le k rest [⊥] (by omega) (fun s hs b _ => by rw [List.mem_singleton.mp hs]; exact bot_le)]

/-- Rounds: from `g 0`, each row being the one before it with one greatest entry struck, the greatest entries of the
first `k` rows are the `k` greatest entries of `g 0` in descending order. -/
theorem tops_eq (k : Nat) (hk : k ≤ n) (g : Nat → Fin n → EReal) (h : ∀ r, Struck (g r) (g (r + 1))) :
    ((List.range k).map fun r => top (g r)) = topList k (List.ofFn (g 0)) := by
  induction k generalizing g with
  | zero => rfl
  | succ k ih =>
    rw [topList_struck (h 0) k hk, ← ih (by omega) (fun r => g (r + 1)) (fun r => h (r + 1)), List.range_succ_eq_map,
      List.map_cons, List.map_map]
    rfl

end Cert.TopRounds
-- ==== Proof.KernelValue.lean ====
/-
# What the kernel computes

Read over the extended reals, one selection of the kernel is eight rounds (`Cert.TopRounds`) on every row: the row's
maximum, then the row with the first entry equal to it replaced by −∞. The first selection takes the eight greatest of a
block's 1024 columns (`best_row`), the second the eight greatest of the sixteen candidates of a pair, so the two together
take the eight greatest of the pair's 2048 columns (`merge_best_row`).
-/
module

public import proofs.«01_k».proof.Proof.Protocol
public import proofs.«01_k».proof.Proof.Rounds
public import Idealize.ShloMosaic.PureOps.Ideal.Laws
public import Idealize.ShloMosaic.Lib.ValueIdxCore
public import Idealize.ShloMosaic.Lib.ValueLayout
public import Idealize.ShloMosaic.Lib.ValueLayoutCasts
public import Idealize.ShloMosaic.Lib.SortNet.Extract
public import Idealize.ShloMosaic.Lib.Pipeline.Value

@[expose] public section

noncomputable section

namespace Cert.KernelIdeal.Value

open Cert.KernelIdeal Cert.KernelIdeal.Gen Cert.KernelIdeal.Exchange Cert.TopRounds
open Idealize.ShloMosaic Idealize.ShloMosaic.ValueIdx Idealize.ShloMosaic.SortNet

/-! ## One round on every row of a block of 256 rows and `W` columns -/

section Round

variable {F : FTy → Type} [FloatOps F] {W : Nat}

/-- The shape of 256 rows and `W` columns. -/
abbrev Rows (W : Nat) : Shape := ⟨2, ![256, W]⟩

/-- The column of the rows' maxima. -/
def maxCol (hr : (Rows W).Reduces [1] S256) (v : FVec F (Rows W) .f32) : FVec F S256x1 .f32 :=
  shapeCast S256x1 (multiReduction .maximumf [1] S256 v 0xFF800000#32 hr (.inl rfl) rfl) shapeCasts_S256_S256x1

/-- The column of the rows' first positions of the maximum. -/
def firstCol (hr : (Rows W).Reduces [1] S256) (hi : (Rows W).Iotas .tc 32 [1]) (hb : S256x1.Broadcasts (Rows W))
    (v : FVec F (Rows W) .f32) : IVec S256x1 32 :=
  shapeCast S256x1 (multiReductionI .minsi [1] S256
    (select (cmpf .oeq v (broadcastTo (Rows W) (maxCol hr v) hb)) (iota .tc (Rows W) 32 [1] hi)
      (broadcast (Rows W) (BitVec.ofNat 32 W))) 2147483647#32 hr rfl) shapeCasts_S256_S256x1

/-- The block with the first maximum of every row replaced by −∞. -/
def strike (hr : (Rows W).Reduces [1] S256) (hi : (Rows W).Iotas .tc 32 [1]) (hb : S256x1.Broadcasts (Rows W))
    (v : FVec F (Rows W) .f32) : FVec F (Rows W) .f32 :=
  select (cmpi .eq (iota .tc (Rows W) 32 [1] hi) (broadcastTo (Rows W) (firstCol hr hi hb v) hb))
    (broadcast (Rows W) (Scalar.ofBits .f32 0xFF800000#32)) v

/-- Eight columns side by side. -/
def beside {α : Type} (c0 c1 c2 c3 c4 c5 c6 c7 : S256x1.Idx → α) : S256x8.Idx → α :=
  concatenate S256x8 1 [⟨S256x1, c0⟩, ⟨S256x1, c1⟩, ⟨S256x1, c2⟩, ⟨S256x1, c3⟩, ⟨S256x1, c4⟩, ⟨S256x1, c5⟩, ⟨S256x1, c6⟩,
    ⟨S256x1, c7⟩] concatenates_S256x1_S256x1_S256x1_S256x1_S256x1_S256x1_S256x1_S256x1_S256x8_d1

/-- Eight columns side by side, read at a row and a column. -/
theorem beside_apply {α : Type} (c0 c1 c2 c3 c4 c5 c6 c7 : S256x1.Idx → α) (i : Fin 256) (r : Fin 8) :
    beside c0 c1 c2 c3 c4 c5 c6 c7 (ix2 i r) = (![c0, c1, c2, c3, c4, c5, c6, c7] : Fin 8 → S256x1.Idx → α) r (ix2 i (0 : Fin 1)) :=
  concatenate_ofFn_unit_apply (t := S256x8) (s₁ := S256x1) 1 ![c0, c1, c2, c3, c4, c5, c6, c7]
    concatenates_S256x1_S256x1_S256x1_S256x1_S256x1_S256x1_S256x1_S256x1_S256x8_d1 rfl rfl (ix2 i r) r rfl (ix2 i (0 : Fin 1))
    fun b hb => match b with | ⟨0, _⟩ => rfl | ⟨1, _⟩ => absurd rfl hb

/-- The eight columns of maxima that eight rounds from a block read off, a round striking by `s`. -/
def eight (hr : (Rows W).Reduces [1] S256) (s : FVec F (Rows W) .f32 → FVec F (Rows W) .f32) (v : FVec F (Rows W) .f32) :
    FVec F S256x8 .f32 :=
  beside (maxCol hr v) (maxCol hr (s v)) (maxCol hr (s (s v))) (maxCol hr (s (s (s v)))) (maxCol hr (s (s (s (s v)))))
    (maxCol hr (s (s (s (s (s v)))))) (maxCol hr (s (s (s (s (s (s v)))))))
    (maxCol hr (s (s (s (s (s (s (s v))))))))

end Round

/-! ## The printed values are those rounds -/

section Printed

variable {F : FTy → Type} [FloatOps F]

/-- A block at the width the kernel compares it at. -/
def wide (x : S256x1024.Idx → Elt F .bf16) : FVec F S256x1024 .f32 :=
  extf .f32 (shapeCast S256x1024 x shapeCasts_S256x1024_S256x1024 : FVec F S256x1024 .bf16) bitsLt_bf16_f32

/-- The two slots' candidates side by side. -/
def both (a b : S1x256x8.Idx → Elt F .f32) : FVec F S256x16 .f32 :=
  concatenate S256x16 1 [⟨S256x8, shapeCast S256x8 a shapeCasts_S1x256x8_S256x8⟩,
    ⟨S256x8, shapeCast S256x8 b shapeCasts_S1x256x8_S256x8⟩] concatenates_S256x8_S256x8_S256x16_d1

/-- A round on a block of 1024 columns. -/
abbrev strikeBlock : FVec F S256x1024 .f32 → FVec F S256x1024 .f32 :=
  strike reduces_S256x1024_S256 iota_S256x1024_d1_w32 broadcasts_S256x1_S256x1024

/-- The maxima of a block of 1024 columns. -/
abbrev maxBlock : FVec F S256x1024 .f32 → FVec F S256x1 .f32 := maxCol reduces_S256x1024_S256

/-- The positions along the 1024 columns. -/
abbrev lanesBlock : IVec S256x1024 32 := iota .tc S256x1024 32 [1] iota_S256x1024_d1_w32

/-- A round on the sixteen candidates. -/
abbrev strikeBoth : FVec F S256x16 .f32 → FVec F S256x16 .f32 :=
  strike reduces_S256x16_S256 iota_S256x16_d1_w32 broadcasts_S256x1_S256x16

/-- The printed values of the first selection, in order: the block's maxima and the block struck once, -/
theorem pay3_eq (x : S256x1024.Idx → Elt F .bf16) : k0_pay3 x = maxBlock (wide x) := by rfl
theorem pay4_eq (x : S256x1024.Idx → Elt F .bf16) : k0_pay4 x = strikeBlock (wide x) := by rfl

/-- the maxima of that, and the same spread over the columns, -/
theorem pay5_eq (x : S256x1024.Idx → Elt F .bf16) : k0_pay5 x = maxBlock (k0_pay4 x) := by rfl
theorem pay6_eq (x : S256x1024.Idx → Elt F .bf16) :
    k0_pay6 x = broadcastTo S256x1024 (maxBlock (k0_pay4 x)) broadcasts_S256x1_S256x1024 := by rfl

/-- each further round's block from the one before, -/
theorem pay7_eq (v : FVec F S256x1024 .f32) :
    k0_pay7 lanesBlock v (broadcastTo S256x1024 (maxBlock v) broadcasts_S256x1_S256x1024) = strikeBlock v := by rfl
theorem pay9_eq (v w : FVec F S256x1024 .f32) : k0_pay9 lanesBlock v w = strikeBlock (k0_pay7 lanesBlock v w) := by rfl
theorem pay11_eq (v w : FVec F S256x1024 .f32) : k0_pay11 lanesBlock v w = strikeBlock (k0_pay9 lanesBlock v w) := by rfl
theorem pay13_eq (v w : FVec F S256x1024 .f32) : k0_pay13 lanesBlock v w = strikeBlock (k0_pay11 lanesBlock v w) := by rfl

/-- their maxima, -/
theorem pay8_eq (v w : FVec F S256x1024 .f32) : k0_pay8 lanesBlock v w = maxBlock (k0_pay7 lanesBlock v w) := by rfl
theorem pay10_eq (v w : FVec F S256x1024 .f32) : k0_pay10 lanesBlock v w = maxBlock (k0_pay9 lanesBlock v w) := by rfl
theorem pay12_eq (v w : FVec F S256x1024 .f32) : k0_pay12 lanesBlock v w = maxBlock (k0_pay11 lanesBlock v w) := by rfl

/-- and the last three rounds with the eight columns put side by side. -/
theorem pay14_eq (c0 c1 c2 c3 c4 : FVec F S256x1 .f32) (v : FVec F S256x1024 .f32) :
    k0_pay14 lanesBlock c0 c1 c2 c3 c4 v
      = shapeCast S1x256x8 (beside c0 c1 c2 c3 c4 (maxBlock v) (maxBlock (strikeBlock v)) (maxBlock (strikeBlock (strikeBlock v))))
          shapeCasts_S256x8_S1x256x8 := by rfl

/-- The first selection is eight rounds on the block. -/
theorem best_eq_eight (x : S256x1024.Idx → Elt F .bf16) :
    best x = shapeCast S1x256x8 (eight reduces_S256x1024_S256 strikeBlock (wide x)) shapeCasts_S256x8_S1x256x8 := by
  unfold best
  dsimp only
  rw [pay14_eq, pay13_eq, pay12_eq, pay11_eq, pay10_eq, pay9_eq, pay8_eq, pay6_eq, pay7_eq, pay5_eq, pay4_eq, pay3_eq]
  unfold eight
  with_reducible rfl

/-- The second selection is eight rounds on the two slots' candidates. -/
theorem merge_eq_eight (a b : S1x256x8.Idx → Elt F .f32) :
    merge a b = eight reduces_S256x16_S256 strikeBoth (both a b) := rfl

end Printed

/-! ## A round over the extended reals -/

section Ideal

variable {W : Nat}

/-- Row `i` of a block. -/
def row {W : Nat} (v : (Rows W).Idx → EReal) (i : Fin 256) : Fin W → EReal := fun j => v (ix2 i j)

/-- A column spread over `W` columns reads the column. -/
theorem broadcastTo_col {α : Type} (x : S256x1.Idx → α) (hb : S256x1.Broadcasts (Rows W)) (i : Fin 256) (j : Fin W) :
    broadcastTo (Rows W) x hb (ix2 i j) = x (ix2 i (0 : Fin 1)) :=
  broadcastTo_apply x hb (ix2 i j) (ix2 i (0 : Fin 1)) fun b => match b with | ⟨0, _⟩ => rfl | ⟨1, _⟩ => rfl

/-- The word the kernel writes for −∞ is the least extended real. -/
theorem ofBits_negInf : (FloatOps.ofBits .f32 0xFF800000#32 : Ideal .f32) = (⊥ : EReal) := by
  show Ideal.ofBits .f32 0xFF800000#32 = ⊥
  simp [Ideal.ofBits, Ideal.ieee]

/-- The column of maxima holds every row's greatest entry. -/
theorem maxCol_apply (hr : (Rows W).Reduces [1] S256) (v : FVec Ideal (Rows W) .f32) (i : Fin 256) (u : Fin 1) :
    maxCol hr v (ix2 i u) = top (row v i) := by
  unfold maxCol
  refine (shapeCast_a_a1_apply _ _ i u).trans ((Ideal.multiReduction_maximumf_single v _ hr _ _ (ix1 i)).trans ?_)
  rw [ofBits_negInf]
  have hl : (v ∘ hr.lift (ix1 i)) = row v i := by
    funext j
    refine congrArg v (funext fun a => ?_)
    match a with
    | ⟨0, _⟩ => rfl
    | ⟨1, _⟩ => rfl
  rw [hl]
  rfl

/-- The signed value of a small word. -/
theorem toInt_small (x : Nat) (hx : x < 2 ^ 31) : (BitVec.ofNat 32 x).toInt = x := by
  rw [BitVec.toInt_eq_toNat_of_lt (by rw [BitVec.toNat_ofNat]; omega), BitVec.toNat_ofNat, Nat.mod_eq_of_lt (by omega)]

/-- The least signed word among a family of words and a bound, as an integer. -/
theorem toInt_fold_minsi {ι : Type} (s : Finset ι) (b : BitVec 32) (g : ι → BitVec 32) :
    (s.fold IKind.minsi.op b g).toInt = s.fold min b.toInt fun k => (g k).toInt :=
  (Finset.fold_hom (op := IKind.minsi.op) (op' := min) (m := BitVec.toInt) (fun x y => toInt_minsi x y)).symm

/-- The column of first positions holds the least position of every row's greatest entry. -/
theorem firstCol_apply (hW : 0 < W) (hW' : W < 2 ^ 31) (hr : (Rows W).Reduces [1] S256) (hi : (Rows W).Iotas .tc 32 [1])
    (hb : S256x1.Broadcasts (Rows W)) (v : FVec Ideal (Rows W) .f32) (i : Fin 256) (u : Fin 1) :
    ∃ a : Fin W, row v i a = top (row v i) ∧ (firstCol hr hi hb v (ix2 i u)).toInt = a.val := by
  classical
  obtain ⟨a, ha, hmin⟩ := Finset.exists_min_image (Finset.univ.filter fun j => row v i j = top (row v i)) (fun j => j.val)
    (by obtain ⟨j, hj⟩ := exists_eq_top (row v i) hW; exact ⟨j, Finset.mem_filter.mpr ⟨Finset.mem_univ j, hj⟩⟩)
  have hat : row v i a = top (row v i) := (Finset.mem_filter.mp ha).2
  have hleast : ∀ j : Fin W, row v i j = top (row v i) → a.val ≤ j.val := fun j hj =>
    hmin j (Finset.mem_filter.mpr ⟨Finset.mem_univ j, hj⟩)
  refine ⟨a, hat, ?_⟩
  unfold firstCol
  refine (congrArg BitVec.toInt ((shapeCast_a_a1_apply _ _ i u).trans ((multiReductionI_eq_fold .minsi _ _ hr _ (ix1 i)).trans
    (hr.fold_filter_drop_single _ _ _ (ix1 i))))).trans ((toInt_fold_minsi _ _ _).trans ?_)
  have hl : ∀ j : Fin W, hr.lift (ix1 i) j = (ix2 i j : (Rows W).Idx) := fun j => by
    funext b
    match b with
    | ⟨0, _⟩ => rfl
    | ⟨1, _⟩ => rfl
  have hword : ∀ j : Fin W, (select (cmpf .oeq v (broadcastTo (Rows W) (maxCol hr v) hb)) (iota .tc (Rows W) 32 [1] hi)
      (broadcast (Rows W) (BitVec.ofNat 32 W)) (hr.lift (ix1 i) j)).toInt
        = if row v i j = top (row v i) then (j.val : Int) else W := fun j => by
    rw [hl, select_apply, cmpf_apply, broadcast_apply, broadcastTo_col, maxCol_apply]
    by_cases hj : row v i j = top (row v i)
    · rw [if_pos hj]
      have : FloatOps.cmpf .oeq (v (ix2 i j)) (top (row v i)) = 1#1 := by
        rw [Ideal.cmpf_def]; show BitVec.ofBool (decide (row v i j = top (row v i))) = 1#1; rw [decide_eq_true hj]; rfl
      rw [this, select_one]
      exact (congrArg BitVec.toInt (iota_single_apply .tc (Rows W) 32 1 hi (ix2 i j))).trans (toInt_small j.val (by omega))
    · rw [if_neg hj]
      have : FloatOps.cmpf .oeq (v (ix2 i j)) (top (row v i)) = 0#1 := by
        rw [Ideal.cmpf_def]; show BitVec.ofBool (decide (row v i j = top (row v i))) = 0#1; rw [decide_eq_false hj]; rfl
      rw [this, select_zero]
      exact toInt_small W hW'
  have hbound : (2147483647#32 : BitVec 32).toInt = 2147483647 := by decide
  have haW := a.isLt
  refine le_antisymm ?_ ?_
  · refine (Finset.fold_min_le _).mpr (Or.inr ⟨a, Finset.mem_univ a, ?_⟩)
    exact le_of_eq ((hword a).trans (if_pos hat))
  · refine (Finset.le_fold_min _).mpr ⟨by rw [hbound]; omega, fun j _ => ?_⟩
    refine le_of_le_of_eq ?_ (hword j).symm
    split
    · rename_i hj
      exact_mod_cast hleast j hj
    · exact_mod_cast haW.le

/-- A round strikes one greatest entry from every row. -/
theorem struck_row (hW : 0 < W) (hW' : W < 2 ^ 31) (hr : (Rows W).Reduces [1] S256) (hi : (Rows W).Iotas .tc 32 [1])
    (hb : S256x1.Broadcasts (Rows W)) (v : FVec Ideal (Rows W) .f32) (i : Fin 256) :
    Struck (row v i) (row (strike hr hi hb v) i) := by
  obtain ⟨a, ha, hw⟩ := firstCol_apply hW hW' hr hi hb v i 0
  refine ⟨a, ha, funext fun j => ?_⟩
  show strike hr hi hb v (ix2 i j) = _
  unfold strike
  rw [select_apply, broadcast_apply]
  have hc : cmpi .eq (iota .tc (Rows W) 32 [1] hi) (broadcastTo (Rows W) (firstCol hr hi hb v) hb) (ix2 i j)
      = BitVec.ofBool (decide (j = a)) := by
    show BitVec.ofBool (iota .tc (Rows W) 32 [1] hi (ix2 i j) == broadcastTo (Rows W) (firstCol hr hi hb v) hb (ix2 i j)) = _
    rw [iota_single_apply, broadcastTo_col]
    have hj : (BitVec.ofNat 32 j.val).toInt = j.val := toInt_small j.val (by omega)
    refine congrArg BitVec.ofBool ?_
    rw [Bool.eq_iff_iff, beq_iff_eq, decide_eq_true_iff]
    constructor
    · intro e
      have e' : (BitVec.ofNat 32 j.val).toInt = _ := congrArg BitVec.toInt e
      rw [hj, hw] at e'
      exact Fin.ext (by exact_mod_cast e')
    · rintro rfl
      exact BitVec.eq_of_toInt_eq (hj.trans hw.symm)
  rw [hc]
  by_cases hj : j = a
  · subst hj
    rw [Function.update_self, decide_eq_true rfl]
    show Scalar.select 1#1 _ _ = _
    rw [select_one]
    exact ofBits_negInf
  · rw [Function.update_of_ne hj, decide_eq_false hj]
    exact select_zero _ _

/-- Eight rounds from a block of at least eight columns leave in every row its eight greatest entries in descending order. -/
theorem eight_row (hW : 8 ≤ W) (hW' : W < 2 ^ 31) (hr : (Rows W).Reduces [1] S256) (hi : (Rows W).Iotas .tc 32 [1])
    (hb : S256x1.Broadcasts (Rows W)) (v : FVec Ideal (Rows W) .f32) (i : Fin 256) :
    List.ofFn (row (eight hr (strike hr hi hb) v) i) = topList 8 (List.ofFn (row v i)) := by
  refine Eq.trans ?_ (tops_eq 8 hW (fun r => row ((strike hr hi hb)^[r] v) i) fun r => by
    rw [Function.iterate_succ_apply']
    exact struck_row (by omega) hW' hr hi hb _ i)
  generalize (strike hr hi hb : FVec Ideal (Rows W) .f32 → FVec Ideal (Rows W) .f32) = s
  have h : row (eight hr s v) i = ![top (row v i), top (row (s v) i), top (row (s (s v)) i), top (row (s (s (s v))) i),
      top (row (s (s (s (s v)))) i), top (row (s (s (s (s (s v))))) i), top (row (s (s (s (s (s (s v)))))) i),
      top (row (s (s (s (s (s (s (s v))))))) i)] := by
    funext r
    refine (beside_apply _ _ _ _ _ _ _ _ i r).trans ?_
    match r with
    | 0 => exact maxCol_apply hr _ i 0
    | 1 => exact maxCol_apply hr _ i 0
    | 2 => exact maxCol_apply hr _ i 0
    | 3 => exact maxCol_apply hr _ i 0
    | 4 => exact maxCol_apply hr _ i 0
    | 5 => exact maxCol_apply hr _ i 0
    | 6 => exact maxCol_apply hr _ i 0
    | 7 => exact maxCol_apply hr _ i 0
  rw [h]
  rfl

/-! ## The two selections -/

/-- The first selection leaves, for every row of the block, its eight greatest entries in descending order. -/
theorem best_row (x : S256x1024.Idx → EReal) (i : Fin 256) :
    (List.ofFn fun r : Fin 8 => best (F := Ideal) x (ix3 (0 : Fin 1) i r)) = topList 8 (List.ofFn (row x i)) := by
  rw [best_eq_eight]
  refine (congrArg List.ofFn (funext fun r => shapeCast_ab_1ab_apply _ shapeCasts_S256x8_S1x256x8 0 i r)).trans
    ((eight_row (by omega) (by omega) _ _ _ (wide (F := Ideal) x) i).trans ?_)
  have hx : wide (F := Ideal) x = x := by
    unfold wide
    rw [shapeCast_self]
    rfl
  rw [hx]

/-- A row of the sixteen candidates is the first slot's eight and then the second slot's. -/
theorem both_row (a b : S1x256x8.Idx → EReal) (i : Fin 256) :
    List.ofFn (row (both (F := Ideal) a b) i)
      = (List.ofFn fun r : Fin 8 => a (ix3 (0 : Fin 1) i r)) ++ List.ofFn fun r : Fin 8 => b (ix3 (0 : Fin 1) i r) := by
  refine (List.ofFn_add (m := 8) (n := 8) (f := row (both (F := Ideal) a b) i)).trans ?_
  refine congrArg₂ (· ++ ·) (congrArg List.ofFn (funext fun r => ?_)) (congrArg List.ofFn (funext fun r => ?_))
  · refine (concatenate_pair_apply_left (t := S256x16) 1 _ _ concatenates_S256x8_S256x8_S256x16_d1 _ rfl (ix2 i r)
      (fun c => match c with | ⟨0, _⟩ => rfl | ⟨1, _⟩ => rfl)).trans ?_
    exact shapeCast_1ab_ab_apply a shapeCasts_S1x256x8_S256x8 i r
  · refine (concatenate_pair_apply_right (t := S256x16) 1 _ _ concatenates_S256x8_S256x8_S256x16_d1 _ rfl rfl (ix2 i r)
      (fun c hc => match c with | ⟨0, _⟩ => rfl | ⟨1, _⟩ => absurd rfl hc) ?_).trans ?_
    · exact Nat.add_comm r.val 8
    · exact shapeCast_1ab_ab_apply b shapeCasts_S1x256x8_S256x8 i r

/-- The two selections leave, for every row of a pair's two blocks side by side, its eight greatest entries in descending
order. -/
theorem merge_best_row (x y : S256x1024.Idx → EReal) (i : Fin 256) :
    List.ofFn (row (merge (F := Ideal) (best x) (best y)) i) = topList 8 (List.ofFn (row x i) ++ List.ofFn (row y i)) := by
  rw [merge_eq_eight]
  refine (eight_row (by omega) (by omega) _ _ _ (both (F := Ideal) (best x) (best y)) i).trans ?_
  rw [both_row, best_row, best_row, topList_append_topList_topList]

end Ideal

end Cert.KernelIdeal.Value
-- ==== Proof.ReferenceValue.lean ====
/-
# What the reference computes

The reference sorts the positions of every row by the negated entries, keeps the first eight and reads the row there. Over
the extended reals the result's row is the eight greatest entries of the row in descending order (`value_row`): entries
sorted so descend and are the row's own entries rearranged, and the positions lie inside the row, so that the printed
range test holds and its other branch is not taken.
-/
module

public import proofs.«01_k».proof.Proof.Gen.ReferenceIdeal
public import proofs.«01_k».proof.Proof.Gen.ReferenceIdeal.Run
public import Idealize.ShloMosaic.PureOps.Ideal.Laws
public import Idealize.ShloMosaic.Lib.ValueIdxCore
public import Idealize.ShloMosaic.Lib.SortFacts
public import Idealize.ShloMosaic.Lib.SortNet.Positions
public import Idealize.ShloMosaic.Lib.Pipeline.Value
public import Mathlib.Data.List.OfFn

@[expose] public section

noncomputable section

namespace Cert.ReferenceIdeal.TopValue

open Cert.ReferenceIdeal Cert.ReferenceIdeal.Gen
open Idealize.ShloMosaic Idealize.ShloMosaic.TcCoe Idealize.ShloMosaic.ValueIdx Idealize.ShloMosaic.SortNet Idealize.SL.Sem

/-! ## The printed result, in four steps -/

section Printed

variable {F : FTy → Type} [FloatOps F]

/-- The first eight positions of every row sorted by the negated entries. -/
def positions (x : S256x2048.Idx → F .bf16) : IVec S256x8 32 :=
  extractStridedSlice S256x8 ![0, 0] ((Host.sort2 S256x2048 1 comparator_f32_i32_d1
    (Host.negf (extf .f32 (x : FVec F S256x2048 .bf16) bitsLt_bf16_f32)) (iotaInDim S256x2048 32 1)).2) slices_S256x2048_S256x8_0_0

/-- Positions with a negative one counted from the row's end. -/
def wrapped (p : IVec S256x8 32) : IVec S256x8x1 32 :=
  shapeCast S256x8x1 (select (cmpi .slt p (broadcastInDim S256x8 ![] bcast_S_S256x8 (constantI S_ 32 0#32)))
    (addi p (broadcastInDim S256x8 ![] bcast_S_S256x8 (constantI S_ 32 2048#32))) p) shapeCasts_S256x8_S256x8x1

/-- The test that a position lies in the row. -/
def inside (w : IVec S256x8x1 32) : IVec S256x8x1 1 :=
  andi (cmpi .sge w (broadcastInDim S256x8x1 ![] bcast_S_S256x8x1 (constantI S_ 32 0#32)))
    (cmpi .sle w (broadcastInDim S256x8x1 ![0, 1, 2] bcast_S1x1x1_S256x8x1_0_1_2
      (broadcastInDim S1x1x1 ![2] bcast_S1_S1x1x1_2 (constantI S1 32 2047#32))))

/-- The entries at the positions. -/
def value (x : S256x2048.Idx → F .bf16) : FVec F S256x8 .f32 :=
  select (Host.reduce IntOp.andi (inside (wrapped (positions x))) (constantI S_ 1 1#1) reducesTo_S256x8x1_S256x8_d2 h_S_)
    (Host.gather gather_S256x2048_S256x8x1_S256x8_n_1_0_0_1_2_11 (extf .f32 (x : FVec F S256x2048 .bf16) bitsLt_bf16_f32)
      (wrapped (positions x)))
    (broadcastInDim S256x8 ![] bcast_S_S256x8 (constant S_ .f32 0x7FC00000#32))

/-- Every fair run of the reference ends with its result `value` of its argument and the argument as it was. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = value (m ((c.tc : Thread nD τ).loc main_arg0))
        ∧ r.2.mem ((c.tc : Thread nD τ).loc main_arg0) = m ((c.tc : Thread nD τ).loc main_arg0) :=
  (θ_run defs _ _).mono (fun _ h c => ⟨(h c).1, (h c).2⟩) (Cert.ReferenceIdeal.Value.run m ρ)

end Printed

/-! ## The sort over the extended reals -/

/-- Row `i` of the whole array. -/
def row (x : S256x2048.Idx → EReal) (i : Fin 256) : Fin 2048 → EReal := fun j => x (ix2 i j)

/-- The printed comparator orders by the first components. -/
theorem comparator_eq (l r : EReal × BitVec 32) :
    comparator_f32_i32_d1 (F := Ideal) l r = BitVec.ofBool (decide (l.1 < r.1)) := by
  have hz : (FloatOps.ofBits .f32 0x00000000#32 : Ideal .f32) = (0 : EReal) := by
    show Ideal.ofBits .f32 0x00000000#32 = 0
    simp [Ideal.ofBits, Ideal.ieee]
  have key : ∀ v : EReal, Scalar.select (FloatOps.cmpf (F := Ideal) (φ := .f32) .une v v) (FloatOps.ofBits .f32 0x7FC00000#32 : Ideal .f32)
      (Scalar.select (FloatOps.cmpf (F := Ideal) (φ := .f32) .oeq v (FloatOps.ofBits .f32 0x00000000#32))
        (FloatOps.ofBits .f32 0x00000000#32 : Ideal .f32) v) = v := by
    intro v
    rw [hz]
    have h1 : FloatOps.cmpf (F := Ideal) (φ := .f32) .une v v = 0#1 := by
      rw [Ideal.cmpf_def]; show BitVec.ofBool (decide (v ≠ v)) = 0#1; simp
    rw [h1, select_zero]
    by_cases hv : v = 0
    · subst hv
      unfold Scalar.select
      split <;> rfl
    · have h2 : FloatOps.cmpf (F := Ideal) (φ := .f32) .oeq v (0 : EReal) = 0#1 := by
        rw [Ideal.cmpf_def]; show BitVec.ofBool (decide (v = 0)) = 0#1; simp [hv]
      rw [h2, select_zero]
  unfold comparator_f32_i32_d1
  dsimp only
  rw [key, key, Ideal.cmpfTotal_def]
  rfl

/-- The position the sort puts at place `k` of row `i`. -/
def place (x : S256x2048.Idx → EReal) (i : Fin 256) (k : Fin 2048) : Fin 2048 := sortedFrom (greaterFirst (row x i)) k

/-- The kept positions are the sort's first eight. -/
theorem positions_apply (x : S256x2048.Idx → EReal) (i : Fin 256) (j : Fin 8) :
    positions (F := Ideal) x (ix2 i j) = BitVec.ofNat 32 (place x i (j.castLE (by omega))).val := by
  unfold positions
  refine (extractStridedSlice_apply ![0, 0] _ slices_S256x2048_S256x8_0_0 (ix2 i j) (ix2 i (j.castLE (by omega)) : S256x2048.Idx)
    (fun a => match a with | ⟨0, _⟩ => (Nat.zero_add _).symm | ⟨1, _⟩ => (Nat.zero_add _).symm)).trans ?_
  have hb : (fun k k' : Fin 2048 => comparator_f32_i32_d1 (F := Ideal)
      (-(x (ix2 i k)), BitVec.ofNat 32 k.val) (-(x (ix2 i k')), BitVec.ofNat 32 k'.val) == 1#1) = greaterFirst (row x i) := by
    funext k k'
    rw [comparator_eq]
    unfold greaterFirst row
    dsimp only
    rw [decide_eq_decide.mpr EReal.neg_lt_neg_iff]
    cases decide (x (ix2 i k') < x (ix2 i k)) <;> rfl
  have hal : ∀ k : Fin 2048, Shape.Idx.along (s := S256x2048) (ix2 i (j.castLE (by omega)) : S256x2048.Idx) 1 k = ix2 i k :=
    fun k => funext fun a => match a with | ⟨0, _⟩ => rfl | ⟨1, _⟩ => rfl
  unfold place
  rw [← hb]
  unfold Host.sort2
  rw [dif_pos (show 1 < S256x2048.rank from by decide)]
  dsimp only
  refine (congrArg (iotaInDim S256x2048 32 1) (hal _)).trans ?_
  refine congrArg (fun B : Fin 2048 → Fin 2048 → Bool => BitVec.ofNat 32 (sortedFrom B (j.castLE (by omega))).val) ?_
  funext k k'
  exact congrArg₂ (fun a b : S256x2048.Idx => comparator_f32_i32_d1 (F := Ideal)
    (-(x a), iotaInDim S256x2048 32 1 a) (-(x b), iotaInDim S256x2048 32 1 b) == 1#1) (hal k) (hal k')

/-- Sorted positions read the row in descending order: the first eight are its eight greatest entries. -/
theorem sorted_row {n : Nat} (hn : 8 ≤ n) (e : Fin n → EReal) :
    (List.ofFn fun j : Fin 8 => e (sortedFrom (greaterFirst e) (j.castLE hn))) = topList 8 (List.ofFn e) := by
  set π : Fin n → Fin n := sortedFrom (greaterFirst e) with hπ
  have hbij : Function.Bijective π := ⟨sortedFrom_injective _, sortedFrom_surjective _⟩
  have hperm : (List.ofFn fun k => e (π k)).Perm (List.ofFn e) := Equiv.Perm.ofFn_comp_perm (Equiv.ofBijective π hbij) e
  have hdesc : (List.ofFn fun k => e (π k)).Pairwise (· ≥ ·) := by
    rw [List.pairwise_ofFn]
    intro a b hab
    have h := sortedFrom_noInversion (greaterFirst e) (greaterFirst e)
      (fun a b h => by simp only [greaterFirst, decide_eq_true_eq, decide_eq_false_iff_not, not_lt] at h ⊢; exact h.le)
      (fun _ _ h => h)
      (fun a b c h h' => by simp only [greaterFirst, decide_eq_false_iff_not, not_lt] at h h' ⊢; exact h.trans h') a b hab
    simp only [greaterFirst, decide_eq_false_iff_not, not_lt] at h
    exact h
  unfold topList
  rw [eq_of_perm_of_descending ((List.perm_insertionSort (· ≥ ·) _).trans hperm.symm) (List.pairwise_insertionSort (· ≥ ·) _) hdesc]
  refine List.ext_getElem (by simpa using hn) fun k h1 h2 => ?_
  rw [List.getElem_ofFn, List.getElem_take, List.getElem_ofFn]
  rfl

/-! ## The reads -/

/-- The signed value of a position word. -/
theorem toInt_position (p : Fin 2048) : (BitVec.ofNat 32 p.val).toInt = p.val := by
  have := p.isLt
  rw [BitVec.toInt_eq_toNat_of_lt (by rw [BitVec.toNat_ofNat]; omega), BitVec.toNat_ofNat, Nat.mod_eq_of_lt (by omega)]

/-- No position is negative, so the positions read are those kept. -/
theorem wrapped_apply (x : S256x2048.Idx → EReal) (i : Fin 256) (j : Fin 8) (u : Fin 1) :
    wrapped (positions (F := Ideal) x) (ix3 i j u) = BitVec.ofNat 32 (place x i (j.castLE (by omega))).val := by
  unfold wrapped
  refine (shapeCast_apply _ shapeCasts_S256x8_S256x8x1 (ix3 i j u) (ix2 i j) ?_).trans ?_
  · have hu : u.val = 0 := by omega
    rw [Shape.rowMajor_val_two, Shape.rowMajor_val_three]
    show i.val * 8 + j.val = (i.val * 8 + j.val) * 1 + u.val
    omega
  · rw [select_apply, positions_apply]
    have hc : cmpi .slt (positions (F := Ideal) x) (broadcastInDim S256x8 ![] bcast_S_S256x8 (constantI S_ 32 0#32)) (ix2 i j) = 0#1 := by
      show BitVec.ofBool ((positions (F := Ideal) x (ix2 i j)).slt 0#32) = 0#1
      rw [positions_apply, BitVec.slt_eq_decide, toInt_position, show (0#32 : BitVec 32).toInt = 0 from rfl,
        decide_eq_false (by omega)]
      rfl
    rw [hc, select_zero]

/-- Every position read lies in the row. -/
theorem inside_apply (x : S256x2048.Idx → EReal) (i : S256x8x1.Idx) : inside (wrapped (positions (F := Ideal) x)) i = 1#1 := by
  have h : ∀ (a : Fin 256) (b : Fin 8) (c : Fin 1), inside (wrapped (positions (F := Ideal) x)) (ix3 a b c) = 1#1 := by
    intro a b c
    show IntOp.andi (BitVec.ofBool ((0#32).sle (wrapped (positions (F := Ideal) x) (ix3 a b c))))
      (BitVec.ofBool ((wrapped (positions (F := Ideal) x) (ix3 a b c)).sle 2047#32)) = 1#1
    have hp := (place x a (b.castLE (by omega))).isLt
    rw [wrapped_apply, BitVec.sle_eq_decide, BitVec.sle_eq_decide, toInt_position, show (0#32 : BitVec 32).toInt = 0 from rfl,
      show (2047#32 : BitVec 32).toInt = 2047 from rfl, decide_eq_true (by omega), decide_eq_true (by omega)]
    rfl
  rw [eq_ix3 i]
  exact h _ _ _

/-- A conjunction of true tests is true. -/
theorem foldl_andi_one {ι : Type} (l : List ι) (f : ι → BitVec 1) (h : ∀ k, f k = 1#1) :
    l.foldl (fun r k => IntOp.andi r (f k)) 1#1 = 1#1 := by
  induction l with
  | nil => rfl
  | cons a l ih => rw [List.foldl_cons, h a]; exact ih

/-- The result at a row and place is the row's entry at the position the sort puts there. -/
theorem value_apply (x : S256x2048.Idx → EReal) (i : Fin 256) (j : Fin 8) :
    value (F := Ideal) x (ix2 i j) = row x i (place x i (j.castLE (by omega))) := by
  unfold value
  rw [select_apply]
  have hr : Host.reduce IntOp.andi (inside (wrapped (positions (F := Ideal) x))) (constantI S_ 1 1#1) reducesTo_S256x8x1_S256x8_d2 h_S_
      (ix2 i j) = 1#1 := by
    rw [Host.reduce_eq_foldl]
    exact foldl_andi_one _ _ fun k => inside_apply x k
  rw [hr, select_one]
  unfold Host.gather
  refine congrArg x (funext fun a => Fin.ext ?_)
  set d := gather_S256x2048_S256x8x1_S256x8_n_1_0_0_1_2_11 with hd
  set w := wrapped (positions (F := Ideal) x) with hw
  show d.start (ix2 i j) w a + d.batchCoord (ix2 i j) a + d.offCoord (ix2 i j) a = (ix2 i (place x i (j.castLE (by omega))) a).val
  match a with
  | ⟨0, h0⟩ =>
    have hm : (⟨0, h0⟩ : Fin S256x2048.rank) ∈ d.operandBatchingDims := List.mem_singleton.mpr rfl
    rw [d.start_batching _ _ _ hm, d.offCoord_eq_zero _ _ fun h => ((d.mem_sKept _).mp h).2 hm, Nat.zero_add, Nat.add_zero]
    unfold GatherDims.batchCoord
    rw [dif_pos hm]
    rfl
  | ⟨1, h1⟩ =>
    have hm : (⟨1, h1⟩ : Fin S256x2048.rank) ∈ d.startIndexMap := List.mem_singleton.mpr rfl
    have hc : (⟨1, h1⟩ : Fin S256x2048.rank) ∈ d.collapsedSliceDims := List.mem_singleton.mpr rfl
    rw [d.batchCoord_eq_zero _ _ (d.sim_disjoint _ hm), d.offCoord_eq_zero _ _ fun h => ((d.mem_sKept _).mp h).1 hc, Nat.add_zero]
    unfold GatherDims.start
    rw [dif_pos hm]
    have hs : d.siIdx (ix2 i j) ⟨d.startIndexMap.idxOf ⟨1, h1⟩, List.idxOf_lt_length_iff.2 hm⟩ = ix3 i j (0 : Fin 1) :=
      funext fun b => Fin.ext (match b with | ⟨0, _⟩ => rfl | ⟨1, _⟩ => rfl | ⟨2, _⟩ => rfl)
    rw [hs, hw, wrapped_apply, toInt_position]
    have hp := (place x i (j.castLE (by omega))).isLt
    show min (Int.toNat ((place x i (j.castLE (by omega))).val : Int)) (2048 - 1) = (place x i (j.castLE (by omega))).val
    omega

/-- A row of the result is the row's eight greatest entries in descending order. -/
theorem value_row (x : S256x2048.Idx → EReal) (i : Fin 256) :
    (List.ofFn fun j : Fin 8 => value (F := Ideal) x (ix2 i j)) = topList 8 (List.ofFn (row x i)) :=
  (congrArg List.ofFn (funext fun j => value_apply x i j)).trans (sorted_row (by omega) (row x i))

end Cert.ReferenceIdeal.TopValue

end
-- ==== Proof.lean ====
/-
# The certificate's five claims

The kernel's run (`Cert.KernelIdeal.Exchange.run_main`) is proved once for every reading of the floats, so it gives the
frames of the program over bits and over the extended reals; the reference's run gives its frame. For the equation, a
device and the one it exchanges with hold the two halves of every row; the kernel leaves the eight greatest of the two
halves' entries in descending order, which does not depend on which half comes first, and so does the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.ShloMosaic.ValueIdx Idealize.ShloMosaic.SortNet Idealize.SL.Sem
open Cert.KernelIdeal.Exchange

/-! ## The equation -/

/-- A row of the whole array is its two halves' rows after one another. -/
theorem row_halves (x : Cert.ReferenceIdeal.S256x2048.Idx → EReal) (i : Fin 256) :
    List.ofFn (Cert.ReferenceIdeal.TopValue.row x i) =
      (List.ofFn fun j : Fin 1024 => x (ix2 i ⟨j.val, by omega⟩)) ++ List.ofFn fun j : Fin 1024 => x (ix2 i ⟨1024 + j.val, by omega⟩) :=
  List.ofFn_add (m := 1024) (n := 1024) (f := Cert.ReferenceIdeal.TopValue.row x i)

/-- The part of the whole array that device `c` holds. -/
def part (x : Cert.ReferenceIdeal.S256x2048.Idx → EReal) (c : Dev Cert.KernelIdeal.nD) : Cert.KernelIdeal.S256x1024.Idx → EReal :=
  Layout.blockN ⟨2, ![256, 1024]⟩ ⟨2, ![256, 2048]⟩ (Layout.meshBlock [2, 2, 2] ![[], [2]] c) x

/-- It is the half of the columns that the device's last coordinate names. -/
theorem part_apply (x : Cert.ReferenceIdeal.S256x2048.Idx → EReal) (c : Dev Cert.KernelIdeal.nD) (i : Fin 256) (j : Fin 1024) :
    part x c (ix2 i j) = x (ix2 i ⟨1024 * (c.val % 2) + j.val, by omega⟩) := by
  unfold part
  rw [Layout.blockN_apply]
  refine congrArg x (funext fun a => Fin.ext ?_)
  match a with
  | ⟨0, h0⟩ =>
    refine (Layout.TilesN.idx_val (S := ⟨2, ![256, 1024]⟩) (T := ⟨2, ![256, 2048]⟩) (by decide) _ _ ⟨0, h0⟩).trans ?_
    rw [Layout.meshBlock_val]
    show 0 * 256 + i.val = i.val
    omega
  | ⟨1, h1⟩ =>
    refine (Layout.TilesN.idx_val (S := ⟨2, ![256, 1024]⟩) (T := ⟨2, ![256, 2048]⟩) (by decide) _ _ ⟨1, h1⟩).trans ?_
    rw [Layout.meshBlock_val]
    have hm : Layout.meshLin [2, 2, 2] c.val [2] = c.val % 2 := by
      revert c; decide
    show Layout.meshLin [2, 2, 2] c.val [2] * 1024 + j.val = 1024 * (c.val % 2) + j.val
    rw [hm]
    omega

/-- A device's row and its peer's hold the whole array's row between them. -/
theorem parts_perm (x : Cert.ReferenceIdeal.S256x2048.Idx → EReal) (c : Dev Cert.KernelIdeal.nD) (i : Fin 256) :
    (List.ofFn (Cert.KernelIdeal.Value.row (part x c) i) ++ List.ofFn (Cert.KernelIdeal.Value.row (part x (peer c)) i)).Perm
      (List.ofFn (Cert.ReferenceIdeal.TopValue.row x i)) := by
  have hrow : ∀ d : Dev Cert.KernelIdeal.nD, List.ofFn (Cert.KernelIdeal.Value.row (part x d) i) =
      List.ofFn fun j : Fin 1024 => x (ix2 i ⟨1024 * (d.val % 2) + j.val, by omega⟩) :=
    fun d => congrArg List.ofFn (funext fun j => part_apply x d i j)
  have hlow : ∀ d : Dev Cert.KernelIdeal.nD, d.val % 2 = 0 → List.ofFn (Cert.KernelIdeal.Value.row (part x d) i) =
      List.ofFn fun j : Fin 1024 => x (ix2 i ⟨j.val, by omega⟩) :=
    fun d hd => (hrow d).trans (congrArg List.ofFn (funext fun j => congrArg x (congrArg (ix2 i) (Fin.ext (by
      show 1024 * (d.val % 2) + j.val = j.val
      rw [hd]; omega)))))
  have hhigh : ∀ d : Dev Cert.KernelIdeal.nD, d.val % 2 = 1 → List.ofFn (Cert.KernelIdeal.Value.row (part x d) i) =
      List.ofFn fun j : Fin 1024 => x (ix2 i ⟨1024 + j.val, by omega⟩) :=
    fun d hd => (hrow d).trans (congrArg List.ofFn (funext fun j => congrArg x (congrArg (ix2 i) (Fin.ext (by
      show 1024 * (d.val % 2) + j.val = 1024 + j.val
      rw [hd])))))
  have hpeer : (peer c).val % 2 = 1 - c.val % 2 := by
    revert c; decide
  rw [row_halves]
  rcases Nat.mod_two_eq_zero_or_one c.val with h | h
  · rw [hlow c h, hhigh (peer c) (by rw [hpeer, h])]
  · rw [hhigh c h, hlow (peer c) (by rw [hpeer, h])]
    exact List.perm_append_comm

/-- What a device of the kernel leaves is the reference's result. -/
theorem merge_eq_value (x : Cert.ReferenceIdeal.S256x2048.Idx → EReal) (c : Dev Cert.KernelIdeal.nD) :
    merge (F := Ideal) (best (part x c)) (best (part x (peer c))) = Cert.ReferenceIdeal.TopValue.value (F := Ideal) x := by
  funext k
  have h : Cert.KernelIdeal.Value.row (merge (F := Ideal) (best (part x c)) (best (part x (peer c)))) (k 0)
      = fun j : Fin 8 => Cert.ReferenceIdeal.TopValue.value (F := Ideal) x (ix2 (k 0) j) :=
    List.ofFn_injective ((Cert.KernelIdeal.Value.merge_best_row (part x c) (part x (peer c)) (k 0)).trans
      ((topList_perm (parts_perm x c (k 0))).trans (Cert.ReferenceIdeal.TopValue.value_row x (k 0)).symm))
  rw [eq_ix2 k]
  exact congrFun h (k 1)

/-- The kernel on eight devices computes the reference. -/
theorem equation : Cert.algebraic_KernelIdeal_ReferenceIdeal := by
  intro m g m' g' _ hm
  refine ⟨Cert.ReferenceIdeal.TopValue.value (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨(h.1 c).2.trans ?_, (h.1 c).1⟩) (run_main (F := Ideal) m g)
    rw [hm c, hm (peer c)]
    exact merge_eq_value _ c
  · exact (θ_run Cert.ReferenceIdeal.defs _ _).mono (fun r h => h 0) (Cert.ReferenceIdeal.TopValue.run_value (F := Ideal) m' g')

/-! ## The frames -/

/-- The program read over bits and the program read over the extended reals are one text: the same bodies, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- and the same body table. -/
theorem defs_eq {F : FTy → Type} [FloatOps F] : Cert.Kernel.defs (F := F) = Cert.KernelIdeal.defs (F := F) :=
  congrArg (Pipeline.defs Cert.KernelIdeal.pcfgs) bodies_eq

/-- The kernel over bits ends, its argument and every counter as they were. -/
theorem frame_kernel : Cert.quiescent_Kernel := by
  intro m g _
  have h : θ_run (Cert.KernelIdeal.defs (F := Bits)) (onTc (τ := Cert.KernelIdeal.τ) (Cert.KernelIdeal.main (F := Bits))) ⟨m, fun _ => 0, g⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono (fun _ h => ⟨fun c => (h.1 c).1, h.2⟩) (run_main (F := Bits) m g)
  rw [defs_eq]
  exact h

/-- So does the kernel over the extended reals, -/
theorem frame_kernelIdeal : Cert.quiescent_KernelIdeal := fun m g _ =>
  (θ_run Cert.KernelIdeal.defs _ _).mono (fun _ h => ⟨fun c => (h.1 c).1, h.2⟩) (run_main (F := Ideal) m g)

/-- and the reference. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.TopValue.run_value (F := Ideal) m g)

theorem claim : Cert.Claim := ⟨Cert.Kernel.Gen.facts, Cert.KernelIdeal.Gen.facts, Cert.ReferenceIdeal.Gen.facts,
  frame_kernel, frame_kernelIdeal, frame_referenceIdeal, trivial, equation⟩

end Cert.Proof

end
